-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear [hPre_clear : Cert.Pre_clear.Facts] (m : (ℓ : Loc Cert.KernelIdeal.nD Cert.KernelIdeal.τ Cert.KernelIdeal.sig) → Buf (Elt Ideal) ℓ) : Prop :=
  ∀ c : Dev Cert.KernelIdeal.nD,
    (Cert.Pre_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear [hPre_clear : Cert.Pre_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clear [hKernelIdeal : Cert.KernelIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clear [hReferenceIdeal : Cert.ReferenceIdeal.Facts] [hPre_clear : Cert.Pre_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "third" .f32 0x3EAAAAAB#32 ((3⁻¹ : ℝ) : EReal)
  ∧ IdealRules.named_const.Statement Cert.KernelIdeal.κ "inv_nm1" .f32 0x34000001#32 ((8388607⁻¹ : ℝ) : EReal)
  ∧ IdealRules.named_const.Statement Cert.KernelIdeal.κ "inv255" .f32 0x3B808081#32 ((255⁻¹ : ℝ) : EReal)
  ∧ IdealRules.named_const.Statement Cert.KernelIdeal.κ "inv_nm1_255" .f32 0x30008082#32 ((2139094785⁻¹ : ℝ) : EReal)

def algebraic_KernelIdeal_ReferenceIdeal_pre_clear [hKernelIdeal : Cert.KernelIdeal.Facts] [hReferenceIdeal : Cert.ReferenceIdeal.Facts] [hPre_clear : Cert.Pre_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clear : Cert.Pre_clear.Facts),
    quiescent_Kernel (hKernel := hKernel)
    ∧ quiescent_KernelIdeal (hKernelIdeal := hKernelIdeal)
    ∧ quiescent_KernelIdeal_pre_clear (hKernelIdeal := hKernelIdeal) (hPre_clear := hPre_clear)
    ∧ quiescent_ReferenceIdeal (hReferenceIdeal := hReferenceIdeal)
    ∧ quiescent_ReferenceIdeal_pre_clear (hReferenceIdeal := hReferenceIdeal) (hPre_clear := hPre_clear)
    ∧ preserves_Kernel_KernelIdeal
    ∧ algebraic_KernelIdeal_ReferenceIdeal_pre_clear (hKernelIdeal := hKernelIdeal) (hReferenceIdeal := hReferenceIdeal) (hPre_clear := hPre_clear)
-- ==== Pre_clear.lean ====
abbrev S32x3x512x512 : Shape := ⟨4, ![32, 3, 512, 512]⟩
abbrev S256 : Shape := ⟨1, ![256]⟩
abbrev S8192 : Shape := ⟨1, ![8192]⟩
abbrev S_ : Shape := ⟨0, ![]⟩
abbrev S8192x1 : Shape := ⟨2, ![8192, 1]⟩
abbrev S254 : Shape := ⟨1, ![254]⟩
abbrev S1x254 : Shape := ⟨2, ![1, 254]⟩
abbrev S8192x254 : Shape := ⟨2, ![8192, 254]⟩
abbrev S255 : Shape := ⟨1, ![255]⟩

class Facts : Prop where
  bcast_S_S8192 : S_.BroadcastsInDim S8192 (![] : Fin 0 → Fin S8192.rank)
  bcast_S8192_S8192x1_0 : S8192.BroadcastsInDim S8192x1 (![0] : Fin 1 → Fin S8192x1.rank)
  bcast_S254_S1x254_1 : S254.BroadcastsInDim S1x254 (![1] : Fin 1 → Fin S1x254.rank)
  bcast_S8192x1_S8192x254_0_1 : S8192x1.BroadcastsInDim S8192x254 (![0, 1] : Fin 2 → Fin S8192x254.rank)
  bcast_S1x254_S8192x254_0_1 : S1x254.BroadcastsInDim S8192x254 (![0, 1] : Fin 2 → Fin S8192x254.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  slices_S256_S254_0 : S256.Slices ![0] S254
  slices_S256_S254_1 : S256.Slices ![1] S254
  bcast_S_S1x254 : S_.BroadcastsInDim S1x254 (![] : Fin 0 → Fin S1x254.rank)
  bcast_S_S8192x254 : S_.BroadcastsInDim S8192x254 (![] : Fin 0 → Fin S8192x254.rank)
  reducesTo_S8192x254_S_d0_1 : S8192x254.ReducesTo [0, 1] S_
  bcast_S_S256 : S_.BroadcastsInDim S256 (![] : Fin 0 → Fin S256.rank)
  reducesTo_S256_S_d0 : S256.ReducesTo [0] S_
  slices_S256_S255_1 : S256.Slices ![1] S255
  bcast_S_S255 : S_.BroadcastsInDim S255 (![] : Fin 0 → Fin S255.rank)
  reducesTo_S255_S_d0 : S255.ReducesTo [0] S_

variable [Facts]

def fn_cumsum_0 {F : FTy → Type} [FloatOps F] (arg0 : FVec F S256 .f32) : FVec F S256 .f32 :=
  let cst : FVec F S_ .f32 := constant S_ .f32 0x00000000#32
  let v0 : FVec F S_ .f32 := broadcastInDim S_ ![] bcast_S_S_ cst
  let v1 : FVec F S256 .f32 := (fun x v => Host.reduceWindowAdd ![256] ![1] ![255] ![0] x v reduceWindows_S256_S256_w256s1p255_0 h_S_) arg0 v0
  v1

def fn_cumsum {F : FTy → Type} [FloatOps F] (arg0 : FVec F S256 .f32) : FVec F S256 .f32 :=
  let v0 : FVec F S256 .f32 := fn_cumsum_0 (F := F) arg0
  v0

def fn_where {F : FTy → Type} [FloatOps F] (arg0 : IVec S8192x254 1) (arg1 : IVec S8192x254 1) (arg2 : IVec S_ 1) : IVec S8192x254 1 :=
  let v0 : IVec S8192x254 1 := broadcastInDim S8192x254 ![] bcast_S_S8192x254 arg2
  let v1 : IVec S8192x254 1 := select arg0 arg1 v0
  v1

def fn_part2 {F : FTy → Type} [FloatOps F] (main_arg1 : FVec F S256 .f32) (main_v14 : FVec F S8192x254 .f32) (main_v31 : FVec F S8192x254 .f32) (main_v36 : FVec F S1x254 .f32) (main_v38 : IVec S8192x254 1) : IVec S_ 1 :=
  let main_cst_8 : FVec F S_ .f32 := constant S_ .f32 0x3F800000#32
  let main_v39 : FVec F S8192x254 .f32 := broadcastInDim S8192x254 ![] bcast_S_S8192x254 main_cst_8
  let main_v40 : IVec S8192x254 1 := cmpf .olt main_v14 main_v39
  let main_v41 : IVec S8192x254 1 := andi main_v38 main_v40
  let main_v42 : FVec F S8192x254 .f32 := broadcastInDim S8192x254 ![0, 1] bcast_S1x254_S8192x254_0_1 main_v36
  let main_v43 : IVec S8192x254 1 := cmpf .olt main_v31 main_v42
  let main_c : IVec S_ 1 := constantI S_ 1 1#1
  let main_v44 : IVec S8192x254 1 := fn_where (F := F) main_v41 main_v43 main_c
  let main_c_9 : IVec S_ 1 := constantI S_ 1 1#1
  let main_v45 : IVec S_ 1 := (fun x v => Host.reduce IntOp.andi x v reducesTo_S8192x254_S_d0_1 h_S_) main_v44 main_c_9
  let main_v46 : FVec F S256 .f32 := Host.absf main_arg1
  let main_cst_10 : FVec F S_ .f32 := constant S_ .f32 0x7F800000#32
  let main_v47 : FVec F S256 .f32 := broadcastInDim S256 ![] bcast_S_S256 main_cst_10
  let main_v48 : IVec S256 1 := cmpf .olt main_v46 main_v47
  let main_c_11 : IVec S_ 1 := constantI S_ 1 1#1
  let main_v49 : IVec S_ 1 := (fun x v => Host.reduce IntOp.andi x v reducesTo_S256_S_d0 h_S_) main_v48 main_c_11
  let main_v50 : IVec S_ 1 := andi main_v45 main_v49
  let main_v51 : FVec F S255 .f32 := (extractStridedSlice S255 ![1] · slices_S256_S255_1) main_arg1
  let main_cst_12 : FVec F S_ .f32 := constant S_ .f32 0x00000000#32
  let main_v52 : FVec F S255 .f32 := broadcastInDim S255 ![] bcast_S_S255 main_cst_12
  let main_v53 : IVec S255 1 := cmpf .oge main_v51 main_v52
  let main_c_13 : IVec S_ 1 := constantI S_ 1 1#1
  let main_v54 : IVec S_ 1 := (fun x v => Host.reduce IntOp.andi x v reducesTo_S255_S_d0 h_S_) main_v53 main_c_13
  let main_v55 : IVec S_ 1 := andi main_v50 main_v54
  main_v55

def fn_part1 {F : FTy → Type} [FloatOps F] (main_arg1 : FVec F S256 .f32) (main_v14 : FVec F S8192x254 .f32) (main_v17 : FVec F S1x254 .f32) (main_v19 : FVec F S1x254 .f32) (main_v20 : FVec F S1x254 .f32) : IVec S_ 1 :=
  let main_cst_2 : FVec F S_ .f32 := constant S_ .f32 0x322BCC77#32
  let main_v21 : FVec F S1x254 .f32 := broadcastInDim S1x254 ![] bcast_S_S1x254 main_cst_2
  let main_v22 : FVec F S1x254 .f32 := addf main_v20 main_v21
  let main_v23 : FVec F S8192x254 .f32 := broadcastInDim S8192x254 ![0, 1] bcast_S1x254_S8192x254_0_1 main_v22
  let main_v24 : FVec F S8192x254 .f32 := mulf main_v14 main_v23
  let main_v25 : FVec F S8192x254 .f32 := broadcastInDim S8192x254 ![0, 1] bcast_S1x254_S8192x254_0_1 main_v17
  let main_v26 : FVec F S8192x254 .f32 := addf main_v25 main_v24
  let main_cst_3 : FVec F S_ .f32 := constant S_ .f32 0x4AFFFFFE#32
  let main_v27 : FVec F S8192x254 .f32 := broadcastInDim S8192x254 ![] bcast_S_S8192x254 main_cst_3
  let main_v28 : FVec F S8192x254 .f32 := mulf main_v26 main_v27
  let main_v29 : FVec F S8192x254 .f32 := Host.floor main_v28
  let main_cst_4 : FVec F S_ .f32 := constant S_ .f32 0x4AFFFFFE#32
  let main_v30 : FVec F S8192x254 .f32 := broadcastInDim S8192x254 ![] bcast_S_S8192x254 main_cst_4
  let main_v31 : FVec F S8192x254 .f32 := minimumf main_v29 main_v30
  let main_cst_5 : FVec F S_ .f32 := constant S_ .f32 0x4AFFFFFE#32
  let main_v32 : FVec F S1x254 .f32 := broadcastInDim S1x254 ![] bcast_S_S1x254 main_cst_5
  let main_v33 : FVec F S1x254 .f32 := mulf main_v19 main_v32
  let main_v34 : FVec F S1x254 .f32 := Host.ceil main_v33
  let main_cst_6 : FVec F S_ .f32 := constant S_ .f32 0x00000000#32
  let main_v35 : FVec F S1x254 .f32 := broadcastInDim S1x254 ![] bcast_S_S1x254 main_cst_6
  let main_v36 : FVec F S1x254 .f32 := maximumf main_v34 main_v35
  let main_cst_7 : FVec F S_ .f32 := constant S_ .f32 0x00000000#32
  let main_v37 : FVec F S8192x254 .f32 := broadcastInDim S8192x254 ![] bcast_S_S8192x254 main_cst_7
  let main_v38 : IVec S8192x254 1 := cmpf .ogt main_v14 main_v37
  fn_part2 (F := F) main_arg1 main_v14 main_v31 main_v36 main_v38

def fn {F : FTy → Type} [FloatOps F] (main_arg0 : FVec F S32x3x512x512 .f32) (main_arg1 : FVec F S256 .f32) : IVec S_ 1 :=
  let main_v0 : IVec S8192 32 := iotaInDim S8192 32 0
  let main_v1 : FVec F S8192 .f32 := sitofp .f32 main_v0
  let main_cst : FVec F S_ .f32 := constant S_ .f32 0x3F000000#32
  let main_v2 : FVec F S8192 .f32 := broadcastInDim S8192 ![] bcast_S_S8192 main_cst
  let main_v3 : FVec F S8192 .f32 := addf main_v1 main_v2
  let main_cst_0 : FVec F S_ .f32 := constant S_ .f32 0x46000000#32
  let main_v4 : FVec F S8192 .f32 := broadcastInDim S8192 ![] bcast_S_S8192 main_cst_0
  let main_v5 : FVec F S8192 .f32 := Host.divf main_v3 main_v4
  let main_cst_1 : FVec F S_ .f32 := constant S_ .f32 0x437F0000#32
  let main_v6 : FVec F S8192 .f32 := broadcastInDim S8192 ![] bcast_S_S8192 main_cst_1
  let main_v7 : FVec F S8192 .f32 := mulf main_v5 main_v6
  let main_v8 : FVec F S8192x1 .f32 := broadcastInDim S8192x1 ![0] bcast_S8192_S8192x1_0 main_v7
  let main_v9 : IVec S254 32 := iotaInDim S254 32 0
  let main_v10 : FVec F S254 .f32 := sitofp .f32 main_v9
  let main_v11 : FVec F S1x254 .f32 := broadcastInDim S1x254 ![1] bcast_S254_S1x254_1 main_v10
  let main_v12 : FVec F S8192x254 .f32 := broadcastInDim S8192x254 ![0, 1] bcast_S8192x1_S8192x254_0_1 main_v8
  let main_v13 : FVec F S8192x254 .f32 := broadcastInDim S8192x254 ![0, 1] bcast_S1x254_S8192x254_0_1 main_v11
  let main_v14 : FVec F S8192x254 .f32 := subf main_v12 main_v13
  let main_v15 : FVec F S256 .f32 := fn_cumsum (F := F) main_arg1
  let main_v16 : FVec F S254 .f32 := (extractStridedSlice S254 ![0] · slices_S256_S254_0) main_v15
  let main_v17 : FVec F S1x254 .f32 := broadcastInDim S1x254 ![1] bcast_S254_S1x254_1 main_v16
  let main_v18 : FVec F S254 .f32 := (extractStridedSlice S254 ![1] · slices_S256_S254_1) main_v15
  let main_v19 : FVec F S1x254 .f32 := broadcastInDim S1x254 ![1] bcast_S254_S1x254_1 main_v18
  let main_v20 : FVec F S1x254 .f32 := subf main_v19 main_v17
  fn_part1 (F := F) main_arg1 main_v14 main_v17 main_v19 main_v20
-- ==== Kernel.lean ====
abbrev S32x3x512x512 : Shape := ⟨4, ![32, 3, 512, 512]⟩
abbrev S256 : Shape := ⟨1, ![256]⟩
abbrev S32x512x512 : Shape := ⟨3, ![32, 512, 512]⟩
abbrev S1x3x128x512 : Shape := ⟨4, ![1, 3, 128, 512]⟩
abbrev S1x128x512 : Shape := ⟨3, ![1, 128, 512]⟩
abbrev S3x128x512 : Shape := ⟨3, ![3, 128, 512]⟩
abbrev S128x512 : Shape := ⟨2, ![128, 512]⟩
abbrev S8388608 : Shape := ⟨1, ![8388608]⟩
abbrev S32x8192 : Shape := ⟨2, ![32, 8192]⟩
abbrev S65536 : Shape := ⟨1, ![65536]⟩
abbrev S8192 : Shape := ⟨1, ![8192]⟩
abbrev S16 : Shape := ⟨1, ![16]⟩
abbrev S_ : Shape := ⟨0, ![]⟩
abbrev S1x8192 : Shape := ⟨2, ![1, 8192]⟩
abbrev S32x64x128 : Shape := ⟨3, ![32, 64, 128]⟩
abbrev S1x256 : Shape := ⟨2, ![1, 256]⟩
abbrev S256x1 : Shape := ⟨2, ![256, 1]⟩
abbrev S1x1 : Shape := ⟨2, ![1, 1]⟩
abbrev S64x128 : Shape := ⟨2, ![64, 128]⟩
abbrev S128x128 : Shape := ⟨2, ![128, 128]⟩
abbrev S64x1 : Shape := ⟨2, ![64, 1]⟩
abbrev S64x64 : Shape := ⟨2, ![64, 64]⟩
abbrev S256x256 : Shape := ⟨2, ![256, 256]⟩
abbrev S4x256 : Shape := ⟨2, ![4, 256]⟩
abbrev S256x128 : Shape := ⟨2, ![256, 128]⟩
abbrev S1x128 : Shape := ⟨2, ![1, 128]⟩
abbrev S4x128 : Shape := ⟨2, ![4, 128]⟩
abbrev S1x1x128 : Shape := ⟨3, ![1, 1, 128]⟩
abbrev S1 : Shape := ⟨1, ![1]⟩
abbrev S1x1x1 : Shape := ⟨3, ![1, 1, 1]⟩

abbrev nBuf : Table → Nat
  | .hbm => 10
  | .local .tc .vmem => 8
  | .local .scVector .vmem => 2
  | _ => 0

abbrev bufTy : (tb : Table) → Fin (nBuf tb) → BufTy
  | .hbm, ⟨0, _⟩ => ⟨S32x3x512x512, .f32⟩
  | .hbm, ⟨1, _⟩ => ⟨S256, .f32⟩
  | .hbm, ⟨2, _⟩ => ⟨S32x512x512, .i32⟩
  | .hbm, ⟨3, _⟩ => ⟨S8388608, .i32⟩
  | .hbm, ⟨4, _⟩ => ⟨S32x8192, .i32⟩
  | .hbm, ⟨5, _⟩ => ⟨S32x64x128, .i32⟩
  | .hbm, ⟨6, _⟩ => ⟨S1x256, .f32⟩
  | .hbm, ⟨7, _⟩ => ⟨S256x1, .f32⟩
  | .hbm, ⟨8, _⟩ => ⟨S1x1, .f32⟩
  | .hbm, ⟨9, _⟩ => ⟨S_, .f32⟩
  | .local .tc .vmem, ⟨0, _⟩ => ⟨S1x3x128x512, .f32⟩
  | .local .tc .vmem, ⟨1, _⟩ => ⟨S1x3x128x512, .f32⟩
  | .local .tc .vmem, ⟨2, _⟩ => ⟨S1x128x512, .i32⟩
  | .local .tc .vmem, ⟨3, _⟩ => ⟨S1x128x512, .i32⟩
  | .local .tc .vmem, ⟨4, _⟩ => ⟨S32x64x128, .i32⟩
  | .local .tc .vmem, ⟨5, _⟩ => ⟨S1x256, .f32⟩
  | .local .tc .vmem, ⟨6, _⟩ => ⟨S256x1, .f32⟩
  | .local .tc .vmem, ⟨7, _⟩ => ⟨S1x1, .f32⟩
  | .local .scVector .vmem, ⟨0, _⟩ => ⟨S65536, .i32⟩
  | .local .scVector .vmem, ⟨1, _⟩ => ⟨S8192, .i32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 6
abbrev cc2_sem1_0 : DmaSem sig := 7
abbrev cc2_sem2_0 : DmaSem sig := 8
abbrev cc2_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

@[reducible] def k1_t1_loop : Scf.Loop 32 :=
  let c0_i32_0 : BitVec 32 := 0#32
  let c512_i32 : BitVec 32 := 512#32
  let v2 : BitVec 32 := Scalar.addi c0_i32_0 c512_i32
  let c1_i32 : BitVec 32 := 1#32
  ⟨c0_i32_0, v2, c1_i32⟩
def k1_off1 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32 : BitVec 32 := 16#32
  let v8 : BitVec 32 := Scalar.muli arg6 c16_i32
  let v9 : Index := Scalar.indexCast v8
  ![v9.toNat]
@[reducible] def k1_t2_loop : Scf.Loop 32 :=
  let c0_i32_4 : BitVec 32 := 0#32
  let c4_i32 : BitVec 32 := 4#32
  let v5 : BitVec 32 := Scalar.addi c0_i32_4 c4_i32
  let c1_i32_5 : BitVec 32 := 1#32
  ⟨c0_i32_4, v5, c1_i32_5⟩
def k1_off2 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v7 : BitVec 32 := Scalar.muli v1 c262144_i32
  let c0_i32_4 : BitVec 32 := 0#32
  let c1_i32_5 : BitVec 32 := 1#32
  let arg6 : BitVec 32 := Scf.iv c0_i32_4 c1_i32_5 k1_t2
  let c65536_i32 : BitVec 32 := 65536#32
  let v8 : BitVec 32 := Scalar.muli arg6 c65536_i32
  let v9 : BitVec 32 := Scalar.addi v7 v8
  ![v9.toNat]
@[reducible] def k1_t3_loop : Scf.Loop 32 :=
  let c0_i32_8 : BitVec 32 := 0#32
  let c4096_i32 : BitVec 32 := 4096#32
  let v10 : BitVec 32 := Scalar.addi c0_i32_8 c4096_i32
  let c1_i32_9 : BitVec 32 := 1#32
  ⟨c0_i32_8, v10, c1_i32_9⟩
def k1_off3 (k1_t3 : Fin k1_t3_loop.trips) : Fin 1 → Nat :=
  let c0_i32_8 : BitVec 32 := 0#32
  let c1_i32_9 : BitVec 32 := 1#32
  let arg8 : BitVec 32 := Scf.iv c0_i32_8 c1_i32_9 k1_t3
  let c16_i32 : BitVec 32 := 16#32
  let v12 : BitVec 32 := Scalar.muli arg8 c16_i32
  let v13 : Index := Scalar.indexCast v12
  ![v13.toNat]

def k1_chk1 (v14 : IVec S16 32) : Prop :=
  (∀ a x, ((![v14] : Fin 1 → IVec S16 32) a x).toNat < S8192.size a)
theorem k1_idx1_inb : ∀ (v14 : IVec S16 32) (k1_hw1 : k1_chk1 v14), ∀ a x, ((![v14] : Fin 1 → IVec S16 32) a x).toNat < S8192.size a := fun v14 k1_hw1 => k1_hw1
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
abbrev grid2 : Pipeline.Grid := .none

abbrev stage2_0 : Fin 1 → Memref sig .tc .vmem S32x64x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv255" => some ((255⁻¹ : ℝ) : EReal)
  | "inv_nm1" => some ((8388607⁻¹ : ℝ) : EReal)
  | "inv_nm1_255" => some ((2139094785⁻¹ : ℝ) : EReal)
  | "third" => some ((3⁻¹ : ℝ) : EReal)
  | _ => none
-- ==== ReferenceIdeal.lean ====
abbrev S32x3x512x512 : Shape := ⟨4, ![32, 3, 512, 512]⟩
abbrev S256 : Shape := ⟨1, ![256]⟩
abbrev S_ : Shape := ⟨0, ![]⟩
abbrev S32x512x512 : Shape := ⟨3, ![32, 512, 512]⟩
abbrev S8388608 : Shape := ⟨1, ![8388608]⟩
abbrev S1x256 : Shape := ⟨2, ![1, 256]⟩
abbrev S8388608x1 : Shape := ⟨2, ![8388608, 1]⟩
abbrev S8388608x256 : Shape := ⟨2, ![8388608, 256]⟩

abbrev nBuf : Space → Nat
  | .hbm => 130
  | .vmem => 0
  | .smem => 0
  | _ => 0

abbrev hbmTy0_0 (i : Nat) : BufTy := match i % 128 with
  | 0 => ⟨S32x3x512x512, .f32⟩
  | 1 => ⟨S256, .f32⟩
  | 2 => ⟨S_, .f32⟩
  | 3 => ⟨S32x512x512, .f32⟩
  | 4 => ⟨S_, .f32⟩
  | 5 => ⟨S32x512x512, .f32⟩
  | 6 => ⟨S32x512x512, .f32⟩
  | 7 => ⟨S8388608, .f32⟩
  | 8 => ⟨S_, .f32⟩
  | 9 => ⟨S8388608, .f32⟩
  | 10 => ⟨S8388608, .f32⟩
  | 11 => ⟨S8388608, .f32⟩
  | 12 => ⟨S8388608, .i32⟩
  | 13 => ⟨S_, .i32⟩
  | 14 => ⟨S_, .i32⟩
  | 15 => ⟨S_, .i32⟩
  | 16 => ⟨S8388608, .i32⟩
  | 17 => ⟨S8388608, .i32⟩
  | 18 => ⟨S_, .i32⟩
  | 19 => ⟨S8388608, .i32⟩
  | 20 => ⟨S8388608, .i32⟩
  | 21 => ⟨S8388608, .f32⟩
  | 22 => ⟨S_, .f32⟩
  | 23 => ⟨S8388608, .f32⟩
  | 24 => ⟨S8388608, .f32⟩
  | 25 => ⟨S_, .f32⟩
  | 26 => ⟨S8388608, .f32⟩
  | 27 => ⟨S8388608, .f32⟩
  | 28 => ⟨S8388608, .f32⟩
  | 29 => ⟨S8388608, .i32⟩
  | 30 => ⟨S8388608, .f32⟩
  | 31 => ⟨S_, .f32⟩
  | 32 => ⟨S8388608, .f32⟩
  | 33 => ⟨S8388608, .f32⟩
  | 34 => ⟨S_, .f32⟩
  | 35 => ⟨S_, .f32⟩
  | 36 => ⟨S256, .f32⟩
  | 37 => ⟨S256, .i32⟩
  | 38 => ⟨S256, .f32⟩
  | 39 => ⟨S_, .f32⟩
  | 40 => ⟨S256, .f32⟩
  | 41 => ⟨S256, .f32⟩
  | 42 => ⟨S1x256, .f32⟩
  | 43 => ⟨S8388608x1, .f32⟩
  | 44 => ⟨S8388608x256, .f32⟩
  | 45 => ⟨S8388608x256, .f32⟩
  | 46 => ⟨S8388608x256, .i1⟩
  | 47 => ⟨S8388608x256, .i32⟩
  | 48 => ⟨S_, .i32⟩
  | 49 => ⟨S8388608, .i32⟩
  | 50 => ⟨S_, .i32⟩
  | 51 => ⟨S_, .i32⟩
  | 52 => ⟨S_, .i32⟩
  | 53 => ⟨S8388608, .i32⟩
  | 54 => ⟨S8388608, .i32⟩
  | 55 => ⟨S_, .i32⟩
  | 56 => ⟨S8388608, .i32⟩
  | 57 => ⟨S8388608, .i32⟩
  | 58 => ⟨S_, .i32⟩
  | 59 => ⟨S8388608, .i32⟩
  | 60 => ⟨S8388608, .i32⟩
  | 61 => ⟨S_, .i32⟩
  | 62 => ⟨S8388608, .i32⟩
  | 63 => ⟨S8388608, .i1⟩
  | 64 => ⟨S_, .i32⟩
  | 65 => ⟨S8388608, .i32⟩
  | 66 => ⟨S8388608, .i32⟩
  | 67 => ⟨S8388608, .i32⟩
  | 68 => ⟨S8388608x1, .i32⟩
  | 69 => ⟨S8388608, .f32⟩
  | 70 => ⟨S8388608, .f32⟩
  | 71 => ⟨S_, .i32⟩
  | 72 => ⟨S8388608, .i32⟩
  | 73 => ⟨S8388608, .i1⟩
  | 74 => ⟨S_, .i32⟩
  | 75 => ⟨S8388608, .i32⟩
  | 76 => ⟨S8388608, .i32⟩
  | 77 => ⟨S8388608, .i32⟩
  | 78 => ⟨S8388608x1, .i32⟩
  | 79 => ⟨S8388608, .f32⟩
  | 80 => ⟨S_, .i32⟩
  | 81 => ⟨S8388608, .i32⟩
  | 82 => ⟨S8388608, .i1⟩
  | 83 => ⟨S_, .i32⟩
  | 84 => ⟨S8388608, .i32⟩
  | 85 => ⟨S8388608, .i32⟩
  | 86 => ⟨S8388608, .i32⟩
  | 87 => ⟨S8388608x1, .i32⟩
  | 88 => ⟨S8388608, .f32⟩
  | 89 => ⟨S8388608, .f32⟩
  | 90 => ⟨S_, .f32⟩
  | 91 => ⟨S8388608, .f32⟩
  | 92 => ⟨S8388608, .f32⟩
  | 93 => ⟨S8388608, .f32⟩
  | 94 => ⟨S_, .i32⟩
  | 95 => ⟨S8388608, .i32⟩
  | 96 => ⟨S8388608, .i1⟩
  | 97 => ⟨S_, .i32⟩
  | 98 => ⟨S8388608, .i32⟩
  | 99 => ⟨S8388608, .i32⟩
  | 100 => ⟨S8388608, .i32⟩
  | 101 => ⟨S8388608x1, .i32⟩
  | 102 => ⟨S8388608, .f32⟩
  | 103 => ⟨S_, .i32⟩
  | 104 => ⟨S8388608, .i32⟩
  | 105 => ⟨S8388608, .i1⟩
  | 106 => ⟨S_, .i32⟩
  | 107 => ⟨S8388608, .i32⟩
  | 108 => ⟨S8388608, .i32⟩
  | 109 => ⟨S8388608, .i32⟩
  | 110 => ⟨S8388608x1, .i32⟩
  | 111 => ⟨S8388608, .f32⟩
  | 112 => ⟨S_, .i32⟩
  | 113 => ⟨S8388608, .i32⟩
  | 114 => ⟨S8388608, .i1⟩
  | 115 => ⟨S_, .i32⟩
  | 116 => ⟨S8388608, .i32⟩
  | 117 => ⟨S8388608, .i32⟩
  | 118 => ⟨S8388608, .i32⟩
  | 119 => ⟨S8388608x1, .i32⟩
  | 120 => ⟨S8388608, .f32⟩
  | 121 => ⟨S8388608, .f32⟩
  | 122 => ⟨S8388608, .f32⟩
  | 123 => ⟨S8388608, .f32⟩
  | 124 => ⟨S8388608, .f32⟩
  | 125 => ⟨S8388608, .f32⟩
  | 126 => ⟨S_, .f32⟩
  | 127 => ⟨S_, .f32⟩
  | _ => ⟨S32x3x512x512, .f32⟩

abbrev hbmTy0_1 (i : Nat) : BufTy := match i % 128 with
  | 0 => ⟨S_, .f32⟩
  | 1 => ⟨S_, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_call2_call0_cst : Ref sig .tc := ⟨.hbm, 34, rfl⟩
abbrev main_call2_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_c_8 : Ref sig .tc := ⟨.hbm, 50, rfl⟩
abbrev main_c_9 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_15 : Ref sig .tc := ⟨.hbm, 80, rfl⟩
abbrev main_v49 : Ref sig .tc := ⟨.hbm, 81, rfl⟩
abbrev main_v50 : Ref sig .tc := ⟨.hbm, 82, rfl⟩
abbrev main_c_16 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_18 : Ref sig .tc := ⟨.hbm, 94, rfl⟩
abbrev main_v60 : Ref sig .tc := ⟨.hbm, 95, rfl⟩
abbrev main_v61 : Ref sig .tc := ⟨.hbm, 96, rfl⟩
abbrev main_c_19 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_20 : Ref sig .tc := ⟨.hbm, 103, rfl⟩
abbrev main_v67 : Ref sig .tc := ⟨.hbm, 104, rfl⟩
abbrev main_v68 : Ref sig .tc := ⟨.hbm, 105, rfl⟩
abbrev main_c_21 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_22 : Ref sig .tc := ⟨.hbm, 112, rfl⟩
abbrev main_v74 : Ref sig .tc := ⟨.hbm, 113, rfl⟩
abbrev main_v75 : Ref sig .tc := ⟨.hbm, 114, rfl⟩
abbrev main_c_23 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_24 : Ref sig .tc := ⟨.hbm, 126, rfl⟩
abbrev main_v86 : Ref sig .tc := ⟨.hbm, 127, rfl⟩
abbrev main_cst_25 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== Proof.Count.lean ====
/-
  Counting words: `cnt w n b` is the number of the first `n` words of `w` that are `b`, as a 32-bit word, and what the
  indexed store with addition of sixteen ones does to a table of such counts.
-/
module

public import Idealize.ShloMosaic.PureOps

@[expose] public section

namespace Cert.Proof.Count

open Idealize.ShloMosaic

/-- The number of the words `w 0, …, w (n - 1)` whose value is `b`. -/
def cnt (w : ℕ → BitVec 32) (n b : ℕ) : BitVec 32 :=
  BitVec.ofNat 32 ((Finset.range n).filter fun j => (w j).toNat = b).card

theorem cnt_zero (w : ℕ → BitVec 32) (b : ℕ) : cnt w 0 b = 0#32 := rfl

theorem cnt_succ (w : ℕ → BitVec 32) (n b : ℕ) : cnt w (n + 1) b = if (w n).toNat = b then cnt w n b + 1#32 else cnt w n b := by
  unfold cnt
  rw [Finset.range_add_one, Finset.filter_insert]
  split
  · rw [Finset.card_insert_of_notMem (by simp), BitVec.ofNat_add]
  · rfl

variable {F : FTy → Type} [FloatOps F]

/-- What lane `k` of the indexed store with addition does to the table `g`. -/
def lane (v : IVec ⟨1, ![16]⟩ 32) (o : Vec F ⟨1, ![16]⟩ .i32)
    (h : ∀ a x, ((![v] : Fin 1 → IVec ⟨1, ![16]⟩ 32) a x).toNat < (⟨1, ![8192]⟩ : Shape).size a) (g : Vec F ⟨1, ![8192]⟩ .i32) (k : Fin 16) : Vec F ⟨1, ![8192]⟩ .i32 :=
  let x := Shape.ofLane (d := ![16]) k
  if (1#1 : BitVec 1) = 1 then
    let i := idxAt (s := ⟨1, ![8192]⟩) (![v] : Fin 1 → IVec ⟨1, ![16]⟩ 32) h x
    let y := if true then Elt.idxAdd .i32 (g i) (o x) else o x
    fun j => if (∀ a, (j a).val = (i a).val) then y else g j
  else g

theorem lane_cnt (w : ℕ → BitVec 32) (n : ℕ) (v : IVec ⟨1, ![16]⟩ 32) (o : Vec F ⟨1, ![16]⟩ .i32) (ho : ∀ x, o x = 1#32)
    (h : ∀ a x, ((![v] : Fin 1 → IVec ⟨1, ![16]⟩ 32) a x).toNat < (⟨1, ![8192]⟩ : Shape).size a) (g : Vec F ⟨1, ![8192]⟩ .i32) (k : Fin 16)
    (hg : ∀ j, g j = cnt w n (j 0).val) (hv : v (Shape.ofLane (d := ![16]) k) = w n) (j : (⟨1, ![8192]⟩ : Shape).Idx) :
    lane v o h g k j = cnt w (n + 1) (j 0).val := by
  have hx : ((idxAt (s := ⟨1, ![8192]⟩) (![v] : Fin 1 → IVec ⟨1, ![16]⟩ 32) h (Shape.ofLane (d := ![16]) k)) 0).val = (w n).toNat := by
    rw [← hv]; rfl
  have hiff : (∀ a : Fin 1, (j a).val = ((idxAt (s := ⟨1, ![8192]⟩) (![v] : Fin 1 → IVec ⟨1, ![16]⟩ 32) h (Shape.ofLane (d := ![16]) k)) a).val)
      ↔ (w n).toNat = (j 0).val := by
    rw [Fin.forall_fin_one, hx, eq_comm]
  rw [cnt_succ]
  by_cases hc : (w n).toNat = (j 0).val
  · rw [if_pos hc]
    refine (if_pos (hiff.mpr hc)).trans ?_
    show g _ + o _ = _
    rw [hg, ho, hx, hc]
  · rw [if_neg hc]
    exact (if_neg fun e => hc (hiff.mp e)).trans (hg j)

/-- Sixteen lanes, each adding one to the entry its word names, take the counts of the first `n` words to the counts of
    the first `n + 16`. -/
theorem storeIdx_cnt (w : ℕ → BitVec 32) (n : ℕ) (f : Vec F ⟨1, ![8192]⟩ .i32) (hf : ∀ j, f j = cnt w n (j 0).val)
    (v : IVec ⟨1, ![16]⟩ 32) (hv : ∀ k : Fin 16, v (Shape.ofLane (d := ![16]) k) = w (n + k.val)) (o : Vec F ⟨1, ![16]⟩ .i32) (ho : ∀ x, o x = 1#32)
    (h : ∀ a x, ((![v] : Fin 1 → IVec ⟨1, ![16]⟩ 32) a x).toNat < (⟨1, ![8192]⟩ : Shape).size a) (j : (⟨1, ![8192]⟩ : Shape).Idx) :
    storeIdx f ![v] o (fun _ => 1#1) true h j = cnt w (n + 16) (j 0).val := by
  have key : ∀ k ≤ 16, ∀ j : (⟨1, ![8192]⟩ : Shape).Idx, ((List.finRange 16).take k).foldl (lane v o h) f j = cnt w (n + k) (j 0).val := by
    intro k
    induction k with
    | zero => intro _ j; exact hf j
    | succ k ih =>
      intro hk j
      have hk' : k < 16 := hk
      rw [List.take_add_one, List.foldl_append, List.getElem?_eq_getElem (by simpa using hk')]
      simp only [Option.toList_some, List.foldl_cons, List.foldl_nil, List.getElem_finRange]
      exact lane_cnt w (n + k) v o ho h _ _ (ih (by omega)) (hv ⟨k, hk'⟩) j
  have := key 16 le_rfl j
  rw [List.take_of_length_le (by simp)] at this
  exact this

end Cert.Proof.Count
-- ==== Proof.TileI.lean ====
/-
  One task of the histogram kernel, on vector subcore `L 1` of SparseCore `L 0`: it zeroes its table of 8192 counts, fetches
  the 262144 bucket numbers of its image in four chunks, adds one to the entry each of them names, and copies the table out to
  its image's row. The run carries the VALUE: after `n` bucket numbers the table is `Count.cnt _ n`.
-/
module

public import proofs.«01_k».proof.Proof.Count
public import Idealize.ShloMosaic.Lib.SparseCore.Launch
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.KernelIdeal.Hist

open Cert.KernelIdeal Cert.KernelIdeal.Gen
open Cert.Proof.Count (cnt cnt_zero storeIdx_cnt)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none

/-- The ghost state: the launch handshakes' rounds, the pipeline's rounds, the transfers' counters. -/
abbrev UH : Type := URounds (GSem nD τ sig) ℕ
abbrev UP : Type := URounds (GSem nD τ sig) Unit
abbrev UU : Type := UH × UP × Counters

local notation "𝕄" => MT nD τ sig (HIx 1) (Elt F) ℕ UU ℕ

abbrev inLoc (d : Dev nD) : Loc nD τ sig := (SparseCore.T d).loc main_v1
abbrev outLoc (d : Dev nD) : Loc nD τ sig := (SparseCore.T d).loc main_v2

local notation "inV" => (Memref.whole Cert.KernelIdeal.main_v1_scv : Memref Cert.KernelIdeal.sig Kind.scVector Space.hbm Cert.KernelIdeal.S8388608 EltTy.i32)
local notation "outV" => (Memref.whole Cert.KernelIdeal.main_v2_scv : Memref Cert.KernelIdeal.sig Kind.scVector Space.hbm Cert.KernelIdeal.S32x8192 EltTy.i32)
local notation "sW" => (Memref.whole Cert.KernelIdeal.cc1_scratch0 : Memref Cert.KernelIdeal.sig Kind.scVector Space.vmem Cert.KernelIdeal.S65536 EltTy.i32)
local notation "sB" => (Memref.whole Cert.KernelIdeal.cc1_scratch1 : Memref Cert.KernelIdeal.sig Kind.scVector Space.vmem Cert.KernelIdeal.S8192 EltTy.i32)

/-! ## The values -/

/-- The words of the flat array from position `o` on. -/
def words (X : IVec S8388608 32) (o n : ℕ) : BitVec 32 :=
  if h : o + n < 8388608 then X (Shape.ofLane (d := ![8388608]) ⟨o + n, h⟩) else 0#32

/-- The result: at row `i` and column `b`, how many of image `i`'s 262144 bucket numbers are `b`. -/
def counts (X : IVec S8388608 32) : IVec S32x8192 32 :=
  fun y => cnt (words X (262144 * (y 0).val)) 262144 (y 1).val

theorem hdiv : 32 ∣ S32x8192.size 0 := ⟨1, rfl⟩
/-- Row `i` of the result: one task's. -/
abbrev row (i : Fin 32) : Rect S32x8192 := Rect.part (s := S32x8192) (a₀ := 0) hdiv i
abbrev rowSet (i : Fin 32) : Finset S32x8192.Idx := ((outV).view.slice (row i)).set

variable [FloatOps F] [Named F]

/-- The flat array at share `q`, and row `i` of the result, as @main holds them. -/
abbrev inPts (d : Dev nD) (q : PosShare TreeShare) (X : IVec S8388608 32) : sProp 𝕄 := inLoc d ↦{q} (X : Buf (Elt F) (inLoc d))
abbrev rowPts (d : Dev nD) (i : Fin 32) (f : IVec S32x8192 32) : sProp 𝕄 := outLoc d ↦[rowSet i]{fullShare} (f : Buf (Elt F) (outLoc d))

section Tile

variable (d : Dev nD) (L : grid1.Coords)

abbrev cV (L : grid1.Coords) : Fin τ.nSC := (L 0).castLE hcore1
abbrev jV (L : grid1.Coords) : Fin τ.nSub := (L 1).castLE hsub1
theorem L0_lt (L : grid1.Coords) : (L 0).val < 2 := (L 0).isLt
theorem L1_lt (L : grid1.Coords) : (L 1).val < 16 := (L 1).isLt
/-- The image of the task. -/
abbrev img (L : grid1.Coords) : Fin 32 := ⟨2 * (L 1).val + (L 0).val, by have := L0_lt L; have := L1_lt L; omega⟩

abbrev rowK (L : grid1.Coords) : Rect S32x8192 := Rect.unit (s := S32x8192) (k1_off4 L) S1x8192.size (k1_off4_inb L)
abbrev outRow (L : grid1.Coords) : Memref sig .scVector .hbm S8192 .i32 := ((outV).slice (rowK L) (fun _ => rfl)).squeeze S8192 squeezes_S1x8192_S8192

omit [FloatOps F] [Named F] in
theorem rowK_eq : rowK L = row (img L) := by
  unfold rowK row Rect.part Rect.block
  congr 1 <;> funext a
  · rw [k1_off4_eq]
    match a with
    | 0 => simp [Shape.partIx, Shape.partSize]
    | 1 => simp [Shape.partIx, Shape.partSize]
  · match a with
    | 0 => simp [Shape.partSize]
    | 1 => simp [Shape.partSize]

omit [FloatOps F] [Named F] in
theorem set_outRow : (outRow L).view.set = rowSet (img L) := by
  show (((outV).view.slice (rowK L)).reshape S8192 squeezes_S1x8192_S8192.numel_eq).set = ((outV).view.slice (row (img L))).set
  rw [View.set_reshape]
  exact rowK_eq L ▸ rfl

omit [FloatOps F] [Named F] in
theorem pts_outRow (f : Buf (Elt F) (outLoc d)) :
    ((outRow L).view.loc (V d (cV L) (jV L)) ↦[(outRow L).view.set]{fullShare} f : sProp 𝕄) = outLoc d ↦[rowSet (img L)]{fullShare} f := by
  rw [set_outRow]
omit [FloatOps F] [Named F] in
theorem pts_in (q : PosShare TreeShare) (f : Buf (Elt F) (inLoc d)) :
    ((inV).view.loc (V d (cV L) (jV L)) ↦{q} f : sProp 𝕄) = inLoc d ↦{q} f := rfl
omit [FloatOps F] [Named F] in
theorem pts_sW (f : Buf (Elt F) ((V d (cV L) (jV L)).loc cc1_scratch0)) :
    ((sW).view.loc (V d (cV L) (jV L)) ↦{fullShare} f : sProp 𝕄) = (V d (cV L) (jV L)).loc cc1_scratch0 ↦{fullShare} f := rfl
omit [FloatOps F] [Named F] in
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl

omit [FloatOps F] [Named F] in
theorem pts_sB_whole (f : Buf (Elt F) ((V d (cV L) (jV L)).loc cc1_scratch1)) :
    (((sB).access (.whole S8192)).loc (V d (cV L) (jV L)) ↦[((sB).access (.whole S8192)).set]{fullShare} f : sProp 𝕄)
      = ((sB).view.loc (V d (cV L) (jV L)) ↦{fullShare} f) := by
  rw [show ((sB).access (.whole S8192)).set = Finset.univ from Memref.set_access_whole (cc1_scratch1 : Ref sig .scVector)]

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)

omit [FloatOps F] [Named F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩)]

omit [FloatOps F] [Named F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The loops' invariants -/

abbrev thr (d : Dev nD) (L : grid1.Coords) : Thread nD τ := V d (cV L) (jV L)

/-- The bucket numbers of the task's image. -/
abbrev wds (X : IVec S8388608 32) (L : grid1.Coords) : ℕ → BitVec 32 := words X (262144 * (img L).val)

/-- The table's first `16 k` entries are zero. -/
def inv1 (k : ℕ) (_ : BitVec 32) : sProp 𝕄 :=
  iprop(∃ f : IVec S8192 32, ⌜∀ j, (j 0).val < 16 * k → f j = 0#32⌝ ∗ (sB).view.loc (thr d L) ↦{fullShare} f)

/-- The table holds the counts of the first `n` bucket numbers. -/
def table (X : IVec S8388608 32) (n : ℕ) : sProp 𝕄 :=
  iprop(∃ f : IVec S8192 32, ⌜∀ j, f j = cnt (wds X L) n (j 0).val⌝ ∗ (sB).view.loc (thr d L) ↦{fullShare} f)

/-- The chunk fetched at trip `t`: the words of the image from `65536 t` on. -/
def isChunk (X : IVec S8388608 32) (L : grid1.Coords) (n : ℕ) (g : IVec S65536 32) : Prop :=
  ∀ y : S65536.Idx, g y = wds X L (n + (y 0).val)

/-- Within a chunk: the fetched words stay, the table counts them. -/
def inv3 (X : IVec S8388608 32) (n : ℕ) (k : ℕ) (_ : BitVec 32) : sProp 𝕄 :=
  iprop((∃ g : IVec S65536 32, ⌜isChunk X L n g⌝ ∗ (sW).view.loc (thr d L) ↦{fullShare} g) ∗ table (F := F) d L X (n + 16 * k))

/-- Between chunks: the table counts the chunks done. -/
def inv2 (X : IVec S8388608 32) (q : PosShare TreeShare) (O : CellTallies nD τ sig (HIx 1)) (t : ℕ) (_ : BitVec 32) : sProp 𝕄 :=
  iprop(Transfers.MayWaits (thr d L) (default : HIx 1) O
    ∗ ((inV).view.loc (thr d L) ↦{q} X)
    ∗ (∃ g : IVec S65536 32, (sW).view.loc (thr d L) ↦{fullShare} g)
    ∗ table (F := F) d L X (65536 * t)
    ∗ semVal (thr d L, SemLoc.dma cc1_scoped0.sem) 0
    ∗ ∃ W', owes (thr d L) O W')

theorem trips1 : k1_t1_loop.trips = 512 := by decide
theorem trips2 : k1_t2_loop.trips = 4 := by decide
theorem trips3 : k1_t3_loop.trips = 4096 := by decide

omit [Named F] in
theorem zero_step (k : Fin k1_t1_loop.trips) (f : IVec S8192 32) (hf : ∀ j, (j 0).val < 16 * k.val → f j = 0#32) (j : S8192.Idx)
    (hj : (j 0).val < 16 * (k.val + 1)) :
    ((sB).view.writes (Elt F) f [⟨Rect.unit (k1_off1 k) S16.size (k1_off1_inb k), k1_pay1⟩] : IVec S8192 32) j = 0#32 := by
  have h := View.read_writes_cons_unit (Val := Elt F) (sB).view f (k1_off1_inb k) (k1_pay1 : Vec F S16 .i32) [] j (k1_off1_eq k)
  refine h.trans ?_
  split
  · rfl
  · rename_i hn
    refine hf j (Nat.lt_of_not_le fun hge => hn fun a => ?_)
    obtain rfl := Fin.eq_zero a
    exact ⟨hge, by show (j 0).val < 16 * k.val + 16; omega⟩

omit [Named F] in
/-- Sixteen words of a chunk as loaded at trip `k`. -/
theorem load_chunk (X : IVec S8388608 32) (n : ℕ) (g : IVec S65536 32) (hg : isChunk X L n g) (k : Fin k1_t3_loop.trips) (x : S16.Idx) :
    (View.readAt (Elt F) (sW).view (Rect.unit (s := S65536) (k1_off3 k) S16.size (k1_off3_inb k)).toLoadRect g : IVec S16 32) x
      = wds X L (n + 16 * k.val + (x 0).val) := by
  refine (hg ((Rect.unit (s := S65536) (k1_off3 k) S16.size (k1_off3_inb k)).emb x)).trans ?_
  have e : (((Rect.unit (s := S65536) (k1_off3 k) S16.size (k1_off3_inb k)).emb x) 0).val = k1_off3 k 0 + 1 * (x 0).val := rfl
  rw [e, k1_off3_eq]
  congr 1
  show n + (16 * k.val + 1 * (x 0).val) = _
  omega

theorem words_lt (X : IVec S8388608 32) (hX : ∀ y, (X y).toNat < 8192) (o n : ℕ) : (words X o n).toNat < 8192 := by
  unfold words
  split
  · exact hX _
  · decide

omit [Named F] in
theorem chk_of_chunk (X : IVec S8388608 32) (hX : ∀ y, (X y).toNat < 8192) (n : ℕ) (g : IVec S65536 32) (hg : isChunk X L n g) (k : Fin k1_t3_loop.trips) :
    k1_chk1 (View.readAt (Elt F) (sW).view (Rect.unit (s := S65536) (k1_off3 k) S16.size (k1_off3_inb k)).toLoadRect g) := by
  intro a x
  obtain rfl := Fin.eq_zero a
  show ((View.readAt (Elt F) (sW).view (Rect.unit (s := S65536) (k1_off3 k) S16.size (k1_off3_inb k)).toLoadRect g : IVec S16 32) x).toNat < 8192
  rw [load_chunk (F := F) L X n g hg k x]
  exact words_lt X hX _ _

omit [FloatOps F] [Named F] in
/-- A write of the whole table lands. -/
theorem write_sB (f w : IVec S8192 32) (j : S8192.Idx) :
    (View.write (Elt F) ((sB).access (.whole S8192)) f w Finset.univ : IVec S8192 32) j = w j := by
  have hw := View.write_emb_of_mem (Val := Elt F) (v := (sB).access (.whole S8192)) f w (Finset.mem_univ j)
  have e : ((sB).access (.whole S8192)).emb j = j := Rect.emb_whole_apply S8192 j
  rw [e] at hw
  exact hw

omit [Named F] in
/-- The table after one trip of the inner loop. -/
theorem count_step (X : IVec S8388608 32) (n : ℕ) (g : IVec S65536 32) (hg : isChunk X L n g) (k : Fin k1_t3_loop.trips)
    (f : IVec S8192 32) (hf : ∀ j, f j = cnt (wds X L) (n + 16 * k.val) (j 0).val)
    (h : ∀ a x, ((![View.readAt (Elt F) (sW).view (Rect.unit (s := S65536) (k1_off3 k) S16.size (k1_off3_inb k)).toLoadRect g] : Fin 1 → IVec S16 32) a x).toNat < S8192.size a)
    (j : S8192.Idx) :
    (View.write (Elt F) ((sB).access (.whole S8192)) f
        (storeIdx (F := F) (View.read (Elt F) ((sB).access (.whole S8192)) f)
          ![View.readAt (Elt F) (sW).view (Rect.unit (s := S65536) (k1_off3 k) S16.size (k1_off3_inb k)).toLoadRect g]
          k1_pay2 (fun _ => 1#1) true h) Finset.univ : IVec S8192 32) j = cnt (wds X L) (n + 16 * (k.val + 1)) (j 0).val := by
  have hr : ∀ j, (View.read (Elt F) ((sB).access (.whole S8192)) f : IVec S8192 32) j = cnt (wds X L) (n + 16 * k.val) (j 0).val := by
    intro j
    refine Eq.trans ?_ (hf j)
    exact congrArg f (Rect.emb_whole_apply S8192 j)
  have hs := storeIdx_cnt (F := F) (wds X L) (n + 16 * k.val) _ hr
    (View.readAt (Elt F) (sW).view (Rect.unit (s := S65536) (k1_off3 k) S16.size (k1_off3_inb k)).toLoadRect g)
    (fun k' => load_chunk (F := F) L X n g hg k _) k1_pay2 (fun _ => rfl) h j
  rw [show n + 16 * (k.val + 1) = n + 16 * k.val + 16 by omega, ← hs]
  exact write_sB (F := F) f _ j

omit [Named F] in
/-- The chunk a fetch lands. -/
theorem chunk_fetched (X : IVec S8388608 32) (t : Fin k1_t2_loop.trips) (g : IVec S65536 32) (D : IVec S65536 32)
    (hD : D = ((inV).slice (Rect.unit (s := S8388608) (k1_off2 L t) S65536.size (k1_off2_inb L t)) (fun _ => rfl)).view.read (Elt F) X) :
    isChunk X L (65536 * t.val) (View.write (Elt F) (sW).view g D Finset.univ) := by
  subst hD
  intro y
  have h1 := View.write_whole_univ (Val := Elt F) (cc1_scratch0 : Ref sig .scVector) g
    (((inV).slice (Rect.unit (s := S8388608) (k1_off2 L t) S65536.size (k1_off2_inb L t)) (fun _ => rfl)).view.read (Elt F) X)
  refine (congrFun h1 y).trans ?_
  show X ((Rect.unit (s := S8388608) (k1_off2 L t) S65536.size (k1_off2_inb L t)).emb y) = _
  have e : (((Rect.unit (s := S8388608) (k1_off2 L t) S65536.size (k1_off2_inb L t)).emb y) 0).val = k1_off2 L t 0 + 1 * (y 0).val := rfl
  have ho : k1_off2 L t 0 = 524288 * (L 1).val + 262144 * (L 0).val + 65536 * t.val := congrFun (k1_off2_eq L t) 0
  have e' : (((Rect.unit (s := S8388608) (k1_off2 L t) S65536.size (k1_off2_inb L t)).emb y) 0).val
      = 262144 * (img L).val + (65536 * t.val + (y 0).val) := by
    rw [e, ho]
    show 524288 * (L 1).val + 262144 * (L 0).val + 65536 * t.val + 1 * (y 0).val = 262144 * (2 * (L 1).val + (L 0).val) + _
    omega
  have hlt : 262144 * (img L).val + (65536 * t.val + (y 0).val) < 8388608 := e' ▸ (((Rect.unit (s := S8388608) (k1_off2 L t) S65536.size (k1_off2_inb L t)).emb y) 0).isLt
  show _ = words X (262144 * (img L).val) (65536 * t.val + (y 0).val)
  unfold words
  rw [dif_pos hlt]
  congr 1
  funext a
  obtain rfl := Fin.eq_zero a
  exact Fin.ext e'

/-- Position `z` of a row as a position of a one-row array. -/
def rowIx (z : S8192.Idx) : S1x8192.Idx := fun | 0 => (0 : Fin 1) | 1 => z 0

omit [Named F] in
/-- What the copy out leaves in the task's row. -/
theorem row_written (X : IVec S8388608 32) (f₀ : IVec S32x8192 32) (f : IVec S8192 32) (hf : ∀ j, f j = cnt (wds X L) 262144 (j 0).val)
    (D : IVec S8192 32) (hD : D = (sB).view.read (Elt F) f) (y : S32x8192.Idx) (hy : y ∈ (outRow L).view.set) :
    ((outRow L).view.writes (Elt F) f₀ [⟨Rect.whole S8192, D⟩] : IVec S32x8192 32) y = counts X y := by
  subst hD
  obtain ⟨z, -, rfl⟩ := Finset.mem_map.mp hy
  have h := View.write_emb_of_mem (Val := Elt F) (v := (outRow L).view.slice (Rect.whole S8192)) f₀ ((sB).view.read (Elt F) f) (Finset.mem_univ z)
  have hz : (outRow L).view.emb ((Rect.whole S8192).emb z) = (outRow L).view.emb z := congrArg _ (Rect.emb_whole_apply S8192 z)
  have h' : ((outRow L).view.writes (Elt F) f₀ [⟨Rect.whole S8192, (sB).view.read (Elt F) f⟩] : IVec S32x8192 32) ((outRow L).view.emb ((Rect.whole S8192).emb z)) = f z := h
  rw [hz] at h'
  refine h'.trans ((hf z).trans ?_)
  have hq : Shape.reshapeEquiv squeezes_S1x8192_S8192.numel_eq z = (rowIx z) := by
    refine Shape.reshapeEquiv_eq_of_rowMajor _ ?_
    refine (Shape.rowMajor_val_two _).trans (Eq.trans ?_ (Shape.rowMajor_val_one _).symm)
    show 0 * 8192 + (z 0).val = (z 0).val
    omega
  have he : (outRow L).view.emb z = (rowK L).emb (rowIx z) := congrArg (rowK L).emb hq
  rw [he]
  have e0 : (((rowK L).emb (rowIx z)) 0).val = (img L).val := by
    show k1_off4 L 0 + 1 * 0 = _
    rw [k1_off4_eq]; rfl
  have e1 : (((rowK L).emb (rowIx z)) 1).val = (z 0).val := by
    show k1_off4 L 1 + 1 * (z 0).val = _
    rw [k1_off4_eq]
    show 0 + 1 * (z 0).val = _
    omega
  unfold counts
  rw [e0, e1]

theorem tile_body (X : IVec S8388608 32) (hX : ∀ y, (X y).toNat < 8192) (q : PosShare TreeShare) (O : CellTallies nD τ sig (HIx 1)) (W : Waits sig (HIx 1))
    (hF : (K (F := F)).Facts) (hO : ∀ g, O g none = 0) (f₀ : IVec S32x8192 32) :
    iprop(levAts (K (F := F)).L (K (F := F)).lev ∗ emp
        ∗ (inPts (F := F) d q X ∗ rowPts (F := F) d (img L) f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__hist_body L inV (Memref.isWhole_whole _) outV (Memref.isWhole_whole _) sW (Memref.isWhole_whole _) sB (Memref.isWhole_whole _)
            cc1_scoped0 cc1_scoped1)
          fun _ => iprop(rowPts (F := F) d (img L) (counts X)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  simp only [cc1__hist_body_eq_skeleton]; unfold cc1__hist_body_skel
  iintro ⟨#Hlv, -, ⟨Hx, Ho⟩, ⟨⟨%fw, Hw⟩, ⟨%fb, Hb⟩, Hbufs⟩, ⟨HsemA, HsemB, Hsems⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  ihave Hx' := (Entails.of_eq (pts_in (F := F) d L q _).symm) $$ Hx
  ihave Ho' := (Entails.of_eq (pts_outRow (F := F) d L _).symm) $$ Ho
  ihave Hw' := (Entails.of_eq (pts_sW (F := F) d L _).symm) $$ Hw
  ihave Hb' := (Entails.of_eq (pts_sB (F := F) d L _).symm) $$ Hb
  -- the table zeroed
  sl_for (inv1 (F := F) d L) $$ [Hb']
  case region =>
    intro k _
    unfold inv1
    iintro ⟨%f, %hf, Hb⟩
    sl_exec
    sl_step
    iexists _; isplitr
    swap; · iexact Hb
    ipureintro; intro j hj
    exact zero_step k f hf j hj
  · unfold inv1
    iexists fb; isplitr
    · ipureintro; intro j hj; exact absurd hj (by omega)
    iexact Hb'
  iintro %_ HI
  unfold inv1
  icases HI with ⟨%f, %hf, Hb⟩
  -- the chunks
  sl_for (inv2 (F := F) d L X q O) $$ [Hmw Hx' Hw' Hb HsemA HO]
  case region =>
    intro t _
    unfold inv2 table
    iintro ⟨Hmw, Hx, ⟨%g, Hw⟩, ⟨%f, %hf, Hb⟩, Hsem, %W', HO⟩
    sl_exec
    sl_for (inv3 (F := F) d L X (65536 * t.val)) $$ [Hw Hb]
    case region =>
      intro k _
      unfold inv3 table
      iintro ⟨⟨%g, %hg, Hw⟩, %f, %hf, Hb⟩
      sl_exec
      rw [wp_assume_of _ _ _ _ (chk_of_chunk L X hX _ g hg k)]
      ihave Hb' := (Entails.of_eq (pts_sB_whole (F := F) d L _).symm) $$ Hb
      iapply (SparseCore.wp_vectorStoreIdx 𝒱₀ (V d (cV L) (jV L)) none Set.univ (base := (sB : Memref sig .scVector .vmem S8192 .i32))) $$ Hb'; iintro Hb'
      ihave Hb := (Entails.of_eq (pts_sB_whole (F := F) d L _)) $$ Hb'
      sl_step
      isplitl [Hw]
      · iexists g; isplitr
        · ipureintro; exact hg
        · iexact Hw
      iexists _; isplitr
      swap; · iexact Hb
      ipureintro
      exact count_step (F := F) L X _ g hg k f hf _
    · unfold inv3 table
      isplitl [Hw]
      · iexists _; isplitr
        swap; · iexact Hw
        ipureintro
        exact chunk_fetched (F := F) L X t g _ rfl
      · iexists f; isplitr
        · ipureintro; exact hf
        · iexact Hb
    iintro %_ HI
    unfold inv3 table
    icases HI with ⟨⟨%g, -, Hw⟩, %f, %hf, Hb⟩
    sl_exec
    sl_step
    isplitl [Hmw]; · iexact Hmw
    isplitl [Hx]; · iexact Hx
    isplitl [Hw]; · iexists _; iexact Hw
    isplitl [Hb]
    · iexists f; isplitr
      · ipureintro; exact hf
      · iexact Hb
    isplitl [Hsem]; · iexact Hsem
    iexists _; iexact HO
  · unfold inv2 table
    isplitl [Hmw]; · iexact Hmw
    isplitl [Hx']; · iexact Hx'
    isplitl [Hw']; · iexists _; iexact Hw'
    isplitl [Hb]
    · iexists f; isplitr
      · ipureintro; intro j; rw [hf j (j 0).isLt]; rfl
      · iexact Hb
    isplitl [HsemA]; · iexact HsemA
    iexists _; iexact HO
  iintro %_ HI
  unfold inv2 table
  icases HI with ⟨Hmw, Hx', ⟨%g, Hw'⟩, ⟨%f, %hf, Hb⟩, HsemA, %W', HO⟩
  sl_exec
  sl_step
  isplitl [Ho']
  · ihave Ho := (Entails.of_eq ((pointsTo_congr (row_written (F := F) L X f₀ f hf (tile_body.sl.dma0_1 f) rfl)).trans (pts_outRow (F := F) d L (counts X)))) $$ Ho'
    iexact Ho
  isplitl [Hw' Hb Hbufs]
  · isplitl [Hw']; · iexists _; iexact Hw'
    isplitl [Hb]; · iexists _; iexact Hb
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Tile

end Cert.KernelIdeal.Hist
-- ==== Proof.BucketI.lean ====
/-
  The bucket stage on the TensorCore: at each of the 128 grid points the body reads a 3 × 128 × 512 block of the image and
  writes the 128 × 512 block of bucket numbers. This module states the body's triple, the pipeline's proof data while the
  core owes a call that comes later, and the array the pipeline leaves: one function of the image, entry by entry.
-/
module

public import proofs.«01_k».proof.Proof.TileI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.RegionArrays

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

variable (m : (ℓ : Loc nD τ sig) → Buf (Elt F) ℓ)

/-! ## One block -/

/-- The image as device `c` holds it at launch. -/
abbrev image (c : Dev nD) : Vec F S32x3x512x512 .f32 := m ((c : Thread nD τ).loc main_arg0)

/-- The block window `w` names at grid point `t`, read off its array's contents at launch. -/
def blockAt (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

abbrev inRect : Rect S1x3x128x512 := Rect.unit (s := S1x3x128x512) ![0, 0, 0, 0] S1x3x128x512.size inb_S1x3x128x512_S1x3x128x512_0_0_0_0
abbrev outRect : Rect S1x128x512 := Rect.unit (s := S1x128x512) ![0, 0, 0] S1x128x512.size inb_S1x128x512_S1x128x512_0_0_0

/-- What the body leaves in the result's staging buffer when the image's holds `x`. -/
def blockOut (x : Vec F S1x3x128x512 .f32) : Vec F S1x128x512 .i32 := View.canon [⟨outRect, k0_pay1 (View.ld x inRect)⟩]

theorem outRect_covers (v : Vec F S1x128x512 .i32) (y : S1x128x512.Idx) :
    ∃ pc ∈ ([⟨outRect, v⟩] : List (View.Piece (Elt F) S1x128x512 .i32)), y ∈ pc.1.set :=
  View.cover_of_tiled [⟨outRect, v⟩] S1x128x512.size (by rfl) y

set_option maxHeartbeats 1000000 in
/-- The body on whole staging buffers: it keeps the image's block and leaves `blockOut` of it in the result's. -/
theorem body_triple (c : Dev nD) (E : Set ℕ) (i : grid0.Coords) (x : Memref sig .tc .vmem S1x3x128x512 .f32) (hx : x.IsWhole)
    (o : Memref sig .tc .vmem S1x128x512 .i32) (ho : o.IsWhole) (v : Vec F S1x3x128x512 .f32) (Q : PUnit → sProp 𝕄) :
    iprop(owns (c : Thread nD τ) x fullShare v ∗ (∃ d, owns (c : Thread nD τ) o fullShare d)
        ∗ (iprop(owns (c : Thread nD τ) x fullShare v ∗ owns (c : Thread nD τ) o fullShare (blockOut v)) -∗ Q ⟨⟩))
      ⊢ wp frame (wpE (defs₀ (F := F)) 𝒱₀ c none) E (cc0__bucketize_body i x hx o ho) Q := by
  simp only [cc0__bucketize_body_eq_skeleton]; unfold cc0__bucketize_body_skel
  unfold owns
  iintro ⟨⟨%f, %hf, Hx⟩, ⟨%d, %g, -, Ho⟩, HQ⟩
  subst hf
  sl_exec
  sl_step
  iapply HQ
  isplitl [Hx]
  · iexists f; isplitr
    · ipureintro; rfl
    iexact Hx
  iexists _; isplitr
  swap
  · iexact Ho
  ipureintro
  exact View.read_writes_eq_canon _ _ _ (outRect_covers _)

/-! ## The pipeline's proof data -/

/-- The image's block stays, the result's is computed; the core owes the SparseCore call throughout, and its
    recorded waits are below the call. -/
def dat0 (c : Dev nD) : Dat τ (Elt F) (HIx 1) ℕ UU ℕ cfg0 c where
  A w := m ((c : Thread nD τ).loc (Pipeline.arrRef spec0 w))
  after w t := match w with
    | ⟨0, _⟩ => blockAt m c 0 t
    | ⟨1, _⟩ => blockOut (blockAt m c 0 t)
  Φ _ := Pipeline.scopedRest spec0 c
  q _ := fullShare
  owed _ := (K (F := F)).Otc c 0
  recorded _ := {p | (K (F := F)).lev (SparseCore.T c, p.1) p.2 ≤ 8 * 0}

theorem dats_A (c : Dev nD) (w : Fin cfg0.W) : (dat0 m c).A w = m ((c : Thread nD τ).loc (Pipeline.arrRef spec0 w)) := by
  dsimp only [dat0]
theorem dats_after0 (c : Dev nD) (t : Fin cfg0.N) : (dat0 m c).after 0 t = blockAt m c 0 t := by dsimp only [dat0]
theorem dats_after1 (c : Dev nD) (t : Fin cfg0.N) : (dat0 m c).after 1 t = blockOut (blockAt m c 0 t) := by dsimp only [dat0]

/-- The image's staging buffer holds its block when the body starts. -/
theorem dats_before0 (c : Dev nD) (t : Fin cfg0.N) (d) : (dat0 m c).before 0 t d = blockAt m c 0 t :=
  ((dat0 m c).before_in_eq_fetched 0 rfl (fun _ => rfl) (fun _ _ _ => rfl)
      (fun t => by rw [dats_after0]; unfold Dat.blockOf blockAt; rw [dats_A]; try rfl) t d).trans
    (by unfold Dat.fetched Dat.blockOf blockAt; rw [dats_A]; try rfl)

theorem body_at (c : Dev nD) (t : Fin cfg0.N) :
    iprop((dat0 m c).Φ t.castSucc ∗ (dat0 m c).owesAt none t.castSucc
        ∗ (∃ d, owns (c : Thread nD τ) (st0_0 t) fullShare ((dat0 m c).before 0 t d))
        ∗ (∃ d, owns (c : Thread nD τ) (st0_1 t) fullShare ((dat0 m c).before 1 t d)))
      ⊢ wp frame (wpE (defs₀ (F := F)) 𝒱₀ c none) Set.univ (bodyAt0 t) fun _ =>
          iprop((dat0 m c).Φ t.succ ∗ (dat0 m c).owesAt none t.succ
            ∗ owns (c : Thread nD τ) (st0_0 t) fullShare ((dat0 m c).after 0 t)
            ∗ owns (c : Thread nD τ) (st0_1 t) fullShare ((dat0 m c).after 1 t)) := by
  unfold bodyAt0
  simp only [dats_before0]
  rw [show (dat0 m c).Φ t.succ = (dat0 m c).Φ t.castSucc from rfl,
    show (dat0 m c).owesAt none t.succ = (dat0 m c).owesAt none t.castSucc from rfl, dats_after0, dats_after1]
  iintro ⟨HΦ, HO, ⟨%d, Hx⟩, ⟨%d', Ho⟩⟩
  iapply (body_triple c Set.univ (grid0.coords t) _ _ _ _ (blockAt m c 0 t) _)
  isplitl [Hx]; · iexact Hx
  isplitl [Ho]; · iexists _; iexact Ho
  iintro ⟨Hx, Ho⟩
  isplitl [HΦ]; · iexact HΦ
  isplitl [HO]; · iexact HO
  isplitl [Hx]; · iexact Hx
  iexact Ho

theorem defs₀_tc (t : Fin cfg0.N) : defs₀ (F := F) .tc cfg0.body (cfg0.bodyArgs t (cfg0.slots t)) = bodyAt0 t := rfl

theorem body_ok (c : Dev nD) : BodyObligation (dat0 (F := F) m c) (defs₀ (F := F)) 𝒱₀ none Set.univ := fun t => by
  rw [bigSep_W0, bigSep_W0, defs₀_tc]
  exact triple_restated (body_at m c t) rfl .rfl fun _ => .rfl

/-- The array of bucket numbers as the pipeline leaves it. -/
abbrev bucketArr (c : Dev nD) : IVec S32x512x512 32 := (dat0 m c).arrAt 1 cfg0.N

end Cert.KernelIdeal.Hist

end
-- ==== Proof.ValueI.lean ====
/-
  The array of bucket numbers, entry by entry: at image `i`, row `h`, column `w` it holds the bucket of the three channels of
  the image there. From it, the flat array the SparseCore call reads.
-/
module

public import proofs.«01_k».proof.Proof.BucketI
public import Idealize.ShloMosaic.Lib.Pipeline.ValueKit.Tiles

@[expose] public section

set_option maxRecDepth 16384

noncomputable section

namespace Cert.KernelIdeal.Hist

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]

/-- The bucket of a pixel, from its three channels: a third of their sum, times 8192, rounded down, cut to 0 … 8191. -/
def bucket (a b c : F .f32) : BitVec 32 :=
  IntOp.minsi 8191#32 (IntOp.maxsi 0#32 (FloatOps.fptosi 32 (FloatOps.floor (FloatOps.mulf
    (FloatOps.mulf (FloatOps.addf (FloatOps.addf a b) c) (Named.named κ "third" 0x3EAAAAAB#32)) (Scalar.ofBits .f32 0x46000000#32)))))

theorem bucket_lt (a b c : F .f32) : (bucket a b c).toNat < 8192 := by
  unfold bucket
  generalize FloatOps.fptosi (F := F) 32 _ = v
  have h8 : (8191#32).toInt = 8191 := rfl
  have h0 : (0#32).toInt = 0 := rfl
  have hv := BitVec.toInt_eq_toNat_cond v
  have hl := v.isLt
  unfold IntOp.minsi IntOp.maxsi
  simp only [BitVec.slt_iff_toInt_lt, h0]
  split_ifs with h1 h2 h2 <;> first | decide | (rw [h8] at h2; split_ifs at hv <;> omega)

/-! ## One block -/

/-- Channel `k` at row `h`, column `w` of a block. -/
abbrev pix (k : Fin 3) (h : Fin 128) (w : Fin 512) : S1x3x128x512.Idx :=
  fun a => match a with | ⟨0, _⟩ => (0 : Fin 1) | ⟨1, _⟩ => k | ⟨2, _⟩ => h | ⟨3, _⟩ => w

/-- Row `h`, column `w` of the bucket block's own shape. -/
abbrev pix2 (h : Fin 128) (w : Fin 512) : S128x512.Idx := fun a => match a with | ⟨0, _⟩ => h | ⟨1, _⟩ => w

theorem channel (P : Vec F S1x3x128x512 .f32) (k : Fin 3) (hs : S3x128x512.Slices ![k.val, 0, 0] S1x128x512) (h : Fin 128) (w : Fin 512) :
    shapeCast S128x512 (extractStridedSlice S1x128x512 ![k.val, 0, 0] (shapeCast S3x128x512 P shapeCasts_S1x3x128x512_S3x128x512) hs)
      shapeCasts_S1x128x512_S128x512 (pix2 h w) = P (pix k h w) := by
  refine (shapeCast_apply _ _ (pix2 h w) (fun a => match a with | ⟨0, _⟩ => (0 : Fin 1) | ⟨1, _⟩ => h | ⟨2, _⟩ => w : S1x128x512.Idx) ?_).trans ?_
  · rw [Shape.rowMajor_val_three, Shape.rowMajor_val_two]
    show ((0 : ℕ) * 128 + h.val) * 512 + w.val = h.val * 512 + w.val
    omega
  refine (extractStridedSlice_apply ![k.val, 0, 0] _ hs _ (fun a => match a with | ⟨0, _⟩ => k | ⟨1, _⟩ => h | ⟨2, _⟩ => w : S3x128x512.Idx) ?_).trans ?_
  · intro a
    match a with
    | ⟨0, _⟩ => show k.val = k.val + 0; omega
    | ⟨1, _⟩ => show h.val = 0 + h.val; omega
    | ⟨2, _⟩ => show w.val = 0 + w.val; omega
  refine shapeCast_apply _ _ _ (pix k h w) ?_
  rw [Shape.rowMajor_val_four, Shape.rowMajor_val_three]
  show (((0 : ℕ) * 3 + k.val) * 128 + h.val) * 512 + w.val = (k.val * 128 + h.val) * 512 + w.val
  omega

/-- Channel `k` of a block, as the body cuts it out. -/
abbrev plane (P : Vec F S1x3x128x512 .f32) (k : Fin 3) (hs : S3x128x512.Slices ![k.val, 0, 0] S1x128x512) : FVec F S128x512 .f32 :=
  shapeCast S128x512 (extractStridedSlice S1x128x512 ![k.val, 0, 0] (shapeCast S3x128x512 P shapeCasts_S1x3x128x512_S3x128x512) hs)
      shapeCasts_S1x128x512_S128x512

theorem payload_tree (P : Vec F S1x3x128x512 .f32) :
    k0_pay1 P = shapeCast S1x128x512 (fun z : S128x512.Idx => bucket (plane P 0 slices_S3x128x512_o0_0_0_S1x128x512 z)
      (plane P 1 slices_S3x128x512_o1_0_0_S1x128x512 z) (plane P 2 slices_S3x128x512_o2_0_0_S1x128x512 z)) shapeCasts_S128x512_S1x128x512 := rfl

theorem payload_apply (P : Vec F S1x3x128x512 .f32) (y : S1x128x512.Idx) :
    k0_pay1 P y = bucket (P (pix 0 (y 1) (y 2))) (P (pix 1 (y 1) (y 2))) (P (pix 2 (y 1) (y 2))) := by
  have h0 : (y 0).val < 1 := (y 0).isLt
  rw [payload_tree]
  refine (shapeCast_apply _ _ y (pix2 (y 1) (y 2)) ?_).trans ?_
  · rw [Shape.rowMajor_val_two, Shape.rowMajor_val_three]
    show (y 1).val * 512 + (y 2).val = ((y 0).val * 128 + (y 1).val) * 512 + (y 2).val
    omega
  · exact congr (congr (congrArg bucket (channel P 0 slices_S3x128x512_o0_0_0_S1x128x512 (y 1) (y 2)))
      (channel P 1 slices_S3x128x512_o1_0_0_S1x128x512 (y 1) (y 2))) (channel P 2 slices_S3x128x512_o2_0_0_S1x128x512 (y 1) (y 2))

/-- What the body leaves in the result's staging buffer, entry by entry. -/
theorem blockOut_apply (P : Vec F S1x3x128x512 .f32) (y : S1x128x512.Idx) :
    blockOut P y = bucket (P (pix 0 (y 1) (y 2))) (P (pix 1 (y 1) (y 2))) (P (pix 2 (y 1) (y 2))) := by
  have hP : View.ld P inRect = P := by
    refine funext fun x => congrArg P (funext fun a => Fin.ext ((Rect.idx_unit_val _ _ _ x a).trans ?_))
    match a with
    | ⟨0, _⟩ => exact Nat.zero_add _
    | ⟨1, _⟩ => exact Nat.zero_add _
    | ⟨2, _⟩ => exact Nat.zero_add _
    | ⟨3, _⟩ => exact Nat.zero_add _
  unfold blockOut
  rw [hP]
  refine View.canon_apply_of_pieces (Val := Elt F) (fun y => bucket (P (pix 0 (y 1) (y 2))) (P (pix 1 (y 1) (y 2))) (P (pix 2 (y 1) (y 2)))) _ ?_ y (outRect_covers _ y)
  intro p hp
  rw [List.mem_singleton] at hp
  subst hp
  intro x
  have hx : outRect.emb x = x := by
    refine funext fun a => Fin.ext ((Rect.idx_unit_val _ _ _ x a).trans ?_)
    match a with
    | ⟨0, _⟩ => exact Nat.zero_add _
    | ⟨1, _⟩ => exact Nat.zero_add _
    | ⟨2, _⟩ => exact Nat.zero_add _
  show k0_pay1 P x = _
  rw [hx, payload_apply]

/-! ## The whole array -/

/-- Channel `k` of the pixel `y` of the image. -/
abbrev pixel (k : Fin 3) (y : S32x512x512.Idx) : S32x3x512x512.Idx :=
  fun a => match a with | ⟨0, _⟩ => y 0 | ⟨1, _⟩ => k | ⟨2, _⟩ => y 1 | ⟨3, _⟩ => y 2

/-- The bucket numbers of an image, pixel by pixel. -/
def buckets (x : Vec F S32x3x512x512 .f32) : IVec S32x512x512 32 :=
  fun y => bucket (x (pixel 0 y)) (x (pixel 1 y)) (x (pixel 2 y))

variable (m : (ℓ : Loc nD τ sig) → Buf (Elt F) ℓ)

theorem inIndex : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
theorem outIndex : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- Where entry `y` of the result's block at point `t` lies in the array. -/
theorem out_at (t : Fin cfg0.N) (y : S1x128x512.Idx) :
    ((win0_1.rect t).emb y 0).val = t.val / 4 ∧ ((win0_1.rect t).emb y 1).val = t.val % 4 * 128 + (y 1).val ∧ ((win0_1.rect t).emb y 2).val = (y 2).val := by
  have h0 : (y 0).val < 1 := (y 0).isLt
  obtain ⟨e0, e1, e2⟩ := outIndex t
  refine ⟨(win0_1.rect_emb_val t y 0).trans ?_, (win0_1.rect_emb_val t y 1).trans ?_, (win0_1.rect_emb_val t y 2).trans ?_⟩
  · rw [e0]; show t.val / 4 * 1 + (y 0).val = _; omega
  · rw [e1]; rfl
  · rw [e2]; show 0 * 512 + (y 2).val = _; omega
/-- Where entry `y` of the image's block at point `t` lies in the image. -/
theorem in_at (t : Fin cfg0.N) (y : S1x3x128x512.Idx) :
    ((win0_0.rect t).emb y 0).val = t.val / 4 ∧ ((win0_0.rect t).emb y 1).val = (y 1).val ∧ ((win0_0.rect t).emb y 2).val = t.val % 4 * 128 + (y 2).val
      ∧ ((win0_0.rect t).emb y 3).val = (y 3).val := by
  have h0 : (y 0).val < 1 := (y 0).isLt
  obtain ⟨e0, e1, e2, e3⟩ := inIndex t
  refine ⟨(win0_0.rect_emb_val t y 0).trans ?_, (win0_0.rect_emb_val t y 1).trans ?_, (win0_0.rect_emb_val t y 2).trans ?_, (win0_0.rect_emb_val t y 3).trans ?_⟩
  · rw [e0]; show t.val / 4 * 1 + (y 0).val = _; omega
  · rw [e1]; show 0 * 3 + (y 1).val = _; omega
  · rw [e2]; rfl
  · rw [e3]; show 0 * 512 + (y 3).val = _; omega

/-- The image's block at a point, entry by entry, against the pixel under the result's block. -/
theorem block_pix (t : Fin cfg0.N) (y : S1x128x512.Idx) (k : Fin 3) :
    (win0_0.rect t).emb (pix k (y 1) (y 2)) = pixel k ((win0_1.rect t).emb y) := by
  obtain ⟨o0, o1, o2⟩ := out_at t y
  obtain ⟨i0, i1, i2, i3⟩ := in_at t (pix k (y 1) (y 2))
  funext a
  match a with
  | ⟨0, _⟩ => exact Fin.ext (i0.trans o0.symm)
  | ⟨1, _⟩ => exact Fin.ext i1
  | ⟨2, _⟩ => exact Fin.ext (i2.trans o1.symm)
  | ⟨3, _⟩ => exact Fin.ext (i3.trans o2.symm)

theorem flushed_eq (c : Dev nD) (t : Fin cfg0.N) :
    (dat0 m c).flushed 1 t = ((cfg0.win 1).blk t).view.read (Elt F) (buckets (image m c) : Buf (Elt F) ((c : Thread nD τ).loc main_v0)) := by
  show (cfg0.win 1).cut (grid0.coords t) ((dat0 m c).after 1 t) = _
  rw [dats_after1]
  funext y
  show blockOut (blockAt m c 0 t) y = buckets (image m c) ((win0_1.rect t).emb y)
  rw [blockOut_apply]
  show bucket (image m c ((win0_0.rect t).emb (pix 0 (y 1) (y 2)))) (image m c ((win0_0.rect t).emb (pix 1 (y 1) (y 2))))
    (image m c ((win0_0.rect t).emb (pix 2 (y 1) (y 2)))) = _
  rw [block_pix t y 0, block_pix t y 1, block_pix t y 2]
  rfl

theorem out_cover (c : Dev nD) (i : S32x512x512.Idx) : ∃ t : Fin cfg0.N, (cfg0.win 1).flush t = true ∧ i ∈ ((cfg0.win 1).blk t).view.set := by
  have h0 : (i 0).val < 32 := (i 0).isLt
  have h1 : (i 1).val < 512 := (i 1).isLt
  have h2 : (i 2).val < 512 := (i 2).isLt
  have hN : cfg0.N = 128 := N_0
  let t : Fin cfg0.N := ⟨(i 0).val * 4 + (i 1).val / 128, by omega⟩
  have ht : t.val = (i 0).val * 4 + (i 1).val / 128 := rfl
  refine ⟨t, flush0_1 t, ?_⟩
  let y : S1x128x512.Idx := fun a => match a with
    | ⟨0, _⟩ => (0 : Fin 1) | ⟨1, _⟩ => (⟨(i 1).val % 128, Nat.mod_lt _ (by decide)⟩ : Fin 128) | ⟨2, _⟩ => (⟨(i 2).val, h2⟩ : Fin 512)
  have hy1 : (y 1).val = (i 1).val % 128 := rfl
  have hy2 : (y 2).val = (i 2).val := rfl
  obtain ⟨o0, o1, o2⟩ := out_at t y
  have e : (win0_1.rect t).emb y = i := by
    funext a
    match a with
    | ⟨0, _⟩ => exact Fin.ext (o0.trans (show t.val / 4 = (i 0).val by omega))
    | ⟨1, _⟩ => exact Fin.ext (o1.trans (show t.val % 4 * 128 + (i 1).val % 128 = (i 1).val by omega))
    | ⟨2, _⟩ => exact Fin.ext (o2.trans hy2)
  rw [← e]
  exact View.emb_mem_set ((cfg0.win 1).blk t).view y

/-- The pipeline leaves the bucket numbers of the image. -/
theorem bucketArr_eq (c : Dev nD) : bucketArr m c = buckets (image m c) :=
  (dat0 m c).arrAt_eq_of_cover 1 (buckets (image m c)) (fun t _ => flushed_eq m c t) (out_cover c)

/-- The flat array of bucket numbers: the images one after the other, row by row. -/
def flat (x : Vec F S32x3x512x512 .f32) : IVec S8388608 32 := shapeCast S8388608 (buckets x) shapeCasts_S32x512x512_S8388608

theorem flat_lt (x : Vec F S32x3x512x512 .f32) (y : S8388608.Idx) : (flat x y).toNat < 8192 := bucket_lt _ _ _

end Cert.KernelIdeal.Hist

end
-- ==== Proof.AsmI.lean ====
/-
  The last stage's body read row by row: the tables it makes first, then for each of the 64 rows of 128 buckets the same chain of
  vector operations, then the sum of the lanes.
-/
module

public import proofs.«01_k».proof.Proof.Gen.KernelIdeal.Skeleton

@[expose] public section

set_option maxRecDepth 65536

noncomputable section

namespace Cert.KernelIdeal.Asm

open Cert.KernelIdeal Cert.KernelIdeal.Gen
open Idealize.ShloMosaic Idealize.SL.Sem

variable {F : FTy → Type} [FloatOps F] [Named F]

/-- The sum of the quantiles of the ranks below `m`, lane by lane, from the tables. -/
def point (v108 : FVec F S4x256 .f32) (v132 : FVec F S256x1 .f32) (m : FVec F S1x128 .f32) : FVec F S1x128 .f32 :=
  have w63 : FVec F S256x128 .f32 := broadcastTo S256x128 v132 broadcasts_S256x1_S256x128
  have w64 : FVec F S256x128 .f32 := broadcastTo S256x128 m broadcasts_S1x128_S256x128
  have w65 : IVec S256x128 1 := cmpf .ole w63 w64
  have w66 : IVec S256x128 32 := extui 32 w65 natLt_1_32
  have w67 : FVec F S256x128 .f32 := sitofp .f32 w66
  have w68 : FVec F S4x128 .f32 := constant S4x128 .f32 0x00000000#32
  have w69 : FVec F S4x128 .f32 := matmul dot_S4x256_S256x128_S4x128_1_0_0_1_n_n (some .fp32) v108 w67 w68
  have w70 : FVec F S1x128 .f32 := extractStridedSlice S1x128 ![0, 0] w69 slices_S4x128_o0_0_S1x128
  have w71 : FVec F S1x128 .f32 := extractStridedSlice S1x128 ![1, 0] w69 slices_S4x128_o1_0_S1x128
  have w72 : FVec F S1x128 .f32 := extractStridedSlice S1x128 ![2, 0] w69 slices_S4x128_o2_0_S1x128
  have w73 : FVec F S1x128 .f32 := extractStridedSlice S1x128 ![3, 0] w69 slices_S4x128_o3_0_S1x128
  have w74 : FVec F S1x128 .f32 := subf m w73
  have w75 : FVec F S1x128 .f32 := mulf w74 w71
  have w76 : FVec F S1x128 .f32 := addf w70 w75
  have w77 : FVec F S1x128 .f32 := mulf w72 w74
  have w78 : F .f32 := Scalar.ofBits .f32 0x3F800000#32
  have w79 : FVec F S1x128 .f32 := broadcast S1x128 w78
  have w80 : FVec F S1x128 .f32 := subf w74 w79
  have w81 : FVec F S1x128 .f32 := mulf w77 w80
  have w82 : F .f32 := Scalar.ofBits .f32 0x3F000000#32
  have w83 : FVec F S1x128 .f32 := broadcast S1x128 w82
  have w84 : FVec F S1x128 .f32 := mulf w81 w83
  have w85 : FVec F S1x128 .f32 := addf w76 w84
  w85

/-- What a lane adds to the total: the chain of one row, from the ranks `a`, `e` at which its bucket begins and ends and the
    row's first bucket number `c`. -/
def contrib (v28 : FVec F S1x256 .f32) (v108 : FVec F S4x256 .f32) (v132 : FVec F S256x1 .f32) (v133 : IVec S256x128 32) (v136 : FVec F S1x128 .f32)
    (c : F .f32) (a e : FVec F S1x128 .f32) : FVec F S1x128 .f32 :=
  have w2 : F .f32 := c
  have w3 : FVec F S1x128 .f32 := broadcast S1x128 w2
  have w4 : FVec F S1x128 .f32 := addf w3 v136
  have w5 : F .f32 := Scalar.ofBits .f32 0x3F000000#32
  have w6 : FVec F S1x128 .f32 := broadcast S1x128 w5
  have w7 : FVec F S1x128 .f32 := addf w4 w6
  have w8 : F .f32 := Scalar.ofBits .f32 0x39000000#32
  have w9 : FVec F S1x128 .f32 := broadcast S1x128 w8
  have w10 : FVec F S1x128 .f32 := mulf w7 w9
  have w11 : F .f32 := Scalar.ofBits .f32 0x437F0000#32
  have w12 : FVec F S1x128 .f32 := broadcast S1x128 w11
  have w13 : FVec F S1x128 .f32 := mulf w12 w10
  have w14 : FVec F S1x128 .f32 := floor w13
  have w15 : IVec S1x128 32 := fptosi 32 w14
  have w16 : BitVec 32 := 0#32
  have w17 : BitVec 32 := 254#32
  have w18 : IVec S1x128 32 := broadcast S1x128 w16
  have w19 : IVec S1x128 32 := maxsi w18 w15
  have w20 : IVec S1x128 32 := broadcast S1x128 w17
  have w21 : IVec S1x128 32 := minsi w20 w19
  have w22 : IVec S256x128 32 := broadcastTo S256x128 w21 broadcasts_S1x128_S256x128
  have w23 : IVec S256x128 1 := cmpi .eq v133 w22
  have w24 : IVec S256x128 32 := extui 32 w23 natLt_1_32
  have w25 : FVec F S256x128 .f32 := sitofp .f32 w24
  have w26 : BitVec 32 := 1#32
  have w27 : IVec S1x128 32 := broadcast S1x128 w26
  have w28 : IVec S1x128 32 := addi w21 w27
  have w29 : IVec S256x128 32 := broadcastTo S256x128 w28 broadcasts_S1x128_S256x128
  have w30 : IVec S256x128 1 := cmpi .eq v133 w29
  have w31 : IVec S256x128 32 := extui 32 w30 natLt_1_32
  have w32 : FVec F S256x128 .f32 := sitofp .f32 w31
  have w33 : FVec F S1x128 .f32 := constant S1x128 .f32 0x00000000#32
  have w34 : FVec F S1x128 .f32 := matmul dot_S1x256_S256x128_S1x128_1_0_0_1_n_n (some .fp32) v28 w25 w33
  have w35 : FVec F S1x128 .f32 := constant S1x128 .f32 0x00000000#32
  have w36 : FVec F S1x128 .f32 := matmul dot_S1x256_S256x128_S1x128_1_0_0_1_n_n (some .fp32) v28 w32 w35
  have w37 : F .f32 := Scalar.ofBits .f32 0x437F0000#32
  have w38 : FVec F S1x128 .f32 := broadcast S1x128 w37
  have w39 : FVec F S1x128 .f32 := mulf w38 w10
  have w40 : FVec F S1x128 .f32 := sitofp .f32 w21
  have w41 : FVec F S1x128 .f32 := subf w39 w40
  have w42 : FVec F S1x128 .f32 := subf w36 w34
  have w43 : F .f32 := Scalar.ofBits .f32 0x322BCC77#32
  have w44 : FVec F S1x128 .f32 := broadcast S1x128 w43
  have w45 : FVec F S1x128 .f32 := addf w42 w44
  have w46 : FVec F S1x128 .f32 := mulf w41 w45
  have w47 : FVec F S1x128 .f32 := addf w34 w46
  have w48 : F .f32 := Scalar.ofBits .f32 0x4AFFFFFE#32
  have w49 : FVec F S1x128 .f32 := broadcast S1x128 w48
  have w50 : FVec F S1x128 .f32 := mulf w49 w47
  have w51 : FVec F S1x128 .f32 := floor w50
  have w52 : F .f32 := Scalar.ofBits .f32 0x3F800000#32
  have w53 : FVec F S1x128 .f32 := broadcast S1x128 w52
  have w54 : FVec F S1x128 .f32 := addf w51 w53
  have w55 : F .f32 := Scalar.ofBits .f32 0x00000000#32
  have w56 : F .f32 := Scalar.ofBits .f32 0x4B000000#32
  have w57 : FVec F S1x128 .f32 := broadcast S1x128 w55
  have w58 : FVec F S1x128 .f32 := maximumf w57 w54
  have w59 : FVec F S1x128 .f32 := broadcast S1x128 w56
  have w60 : FVec F S1x128 .f32 := minimumf w59 w58
  have w61 : FVec F S1x128 .f32 := maximumf a w60
  have w62 : FVec F S1x128 .f32 := minimumf e w61
  have w132 : F .f32 := Scalar.ofBits .f32 0x40000000#32
  have w133 : FVec F S1x128 .f32 := broadcast S1x128 w132
  have w134 : FVec F S1x128 .f32 := mulf w133 w62
  have w135 : FVec F S1x128 .f32 := subf w134 a
  have w136 : FVec F S1x128 .f32 := subf w135 e
  have w137 : FVec F S1x128 .f32 := mulf w10 w136
  have w138 : FVec F S1x128 .f32 := addf w137 (point v108 v132 a)
  have w139 : FVec F S1x128 .f32 := addf w138 (point v108 v132 e)
  have w140 : F .f32 := Scalar.ofBits .f32 0x40000000#32
  have w141 : FVec F S1x128 .f32 := broadcast S1x128 w140
  have w142 : FVec F S1x128 .f32 := mulf w141 (point v108 v132 w62)
  have w143 : FVec F S1x128 .f32 := subf w139 w142
  w143

/-- One row: its lanes' contributions added to the total. -/
def row (v19 v20 : FVec F S64x128 .f32) (v28 : FVec F S1x256 .f32) (v108 : FVec F S4x256 .f32) (v132 : FVec F S256x1 .f32)
    (v133 : IVec S256x128 32) (v136 : FVec F S1x128 .f32) (c : F .f32) (off : Fin 2 → ℕ) (h : S64x128.Slices off S1x128) (t : FVec F S1x128 .f32) : FVec F S1x128 .f32 :=
  addf t (contrib v28 v108 v132 v133 v136 c (extractStridedSlice S1x128 off v19 h) (extractStridedSlice S1x128 off v20 h))

/-- All rows. -/
def rows (v19 v20 : FVec F S64x128 .f32) (v28 : FVec F S1x256 .f32) (v108 : FVec F S4x256 .f32) (v132 : FVec F S256x1 .f32)
    (v133 : IVec S256x128 32) (v136 : FVec F S1x128 .f32) : FVec F S1x128 .f32 :=
  have t0 : FVec F S1x128 .f32 := broadcast S1x128 (Scalar.ofBits .f32 0x00000000#32)
  have t1 : FVec F S1x128 .f32 := row v19 v20 v28 v108 v132 v133 v136 (Scalar.ofBits .f32 0x00000000#32) ![0, 0] slices_S64x128_o0_0_S1x128 t0
  have t2 : FVec F S1x128 .f32 := row v19 v20 v28 v108 v132 v133 v136 (Scalar.ofBits .f32 0x43000000#32) ![1, 0] slices_S64x128_o1_0_S1x128 t1
  have t3 : FVec F S1x128 .f32 := row v19 v20 v28 v108 v132 v133 v136 (Scalar.ofBits .f32 0x43800000#32) ![2, 0] slices_S64x128_o2_0_S1x128 t2
  have t4 : FVec F S1x128 .f32 := row v19 v20 v28 v108 v132 v133 v136 (Scalar.ofBits .f32 0x43C00000#32) ![3, 0] slices_S64x128_o3_0_S1x128 t3
  have t5 : FVec F S1x128 .f32 := row v19 v20 v28 v108 v132 v133 v136 (Scalar.ofBits .f32 0x44000000#32) ![4, 0] slices_S64x128_o4_0_S1x128 t4
  have t6 : FVec F S1x128 .f32 := row v19 v20 v28 v108 v132 v133 v136 (Scalar.ofBits .f32 0x44200000#32) ![5, 0] slices_S64x128_o5_0_S1x128 t5
  have t7 : FVec F S1x128 .f32 := row v19 v20 v28 v108 v132 v133 v136 (Scalar.ofBits .f32 0x44400000#32) ![6, 0] slices_S64x128_o6_0_S1x128 t6
  have t8 : FVec F S1x128 .f32 := row v19 v20 v28 v108 v132 v133 v136 (Scalar.ofBits .f32 0x44600000#32) ![7, 0] slices_S64x128_o7_0_S1x128 t7
  have t9 : FVec F S1x128 .f32 := row v19 v20 v28 v108 v132 v133 v136 (Scalar.ofBits .f32 0x44800000#32) ![8, 0] slices_S64x128_o8_0_S1x128 t8
  have t10 : FVec F S1x128 .f32 := row v19 v20 v28 v108 v132 v133 v136 (Scalar.ofBits .f32 0x44900000#32) ![9, 0] slices_S64x128_o9_0_S1x128 t9
  have t11 : FVec F S1x128 .f32 := row v19 v20 v28 v108 v132 v133 v136 (Scalar.ofBits .f32 0x44A00000#32) ![10, 0] slices_S64x128_o10_0_S1x128 t10
  have t12 : FVec F S1x128 .f32 := row v19 v20 v28 v108 v132 v133 v136 (Scalar.ofBits .f32 0x44B00000#32) ![11, 0] slices_S64x128_o11_0_S1x128 t11
  have t13 : FVec F S1x128 .f32 := row v19 v20 v28 v108 v132 v133 v136 (Scalar.ofBits .f32 0x44C00000#32) ![12, 0] slices_S64x128_o12_0_S1x128 t12
  have t14 : FVec F S1x128 .f32 := row v19 v20 v28 v108 v132 v133 v136 (Scalar.ofBits .f32 0x44D00000#32) ![13, 0] slices_S64x128_o13_0_S1x128 t13
  have t15 : FVec F S1x128 .f32 := row v19 v20 v28 v108 v132 v133 v136 (Scalar.ofBits .f32 0x44E00000#32) ![14, 0] slices_S64x128_o14_0_S1x128 t14
  have t16 : FVec F S1x128 .f32 := row v19 v20 v28 v108 v132 v133 v136 (Scalar.ofBits .f32 0x44F00000#32) ![15, 0] slices_S64x128_o15_0_S1x128 t15
  have t17 : FVec F S1x128 .f32 := row v19 v20 v28 v108 v132 v133 v136 (Scalar.ofBits .f32 0x45000000#32) ![16, 0] slices_S64x128_o16_0_S1x128 t16
  have t18 : FVec F S1x128 .f32 := row v19 v20 v28 v108 v132 v133 v136 (Scalar.ofBits .f32 0x45080000#32) ![17, 0] slices_S64x128_o17_0_S1x128 t17
  have t19 : FVec F S1x128 .f32 := row v19 v20 v28 v108 v132 v133 v136 (Scalar.ofBits .f32 0x45100000#32) ![18, 0] slices_S64x128_o18_0_S1x128 t18
  have t20 : FVec F S1x128 .f32 := row v19 v20 v28 v108 v132 v133 v136 (Scalar.ofBits .f32 0x45180000#32) ![19, 0] slices_S64x128_o19_0_S1x128 t19
  have t21 : FVec F S1x128 .f32 := row v19 v20 v28 v108 v132 v133 v136 (Scalar.ofBits .f32 0x45200000#32) ![20, 0] slices_S64x128_o20_0_S1x128 t20
  have t22 : FVec F S1x128 .f32 := row v19 v20 v28 v108 v132 v133 v136 (Scalar.ofBits .f32 0x45280000#32) ![21, 0] slices_S64x128_o21_0_S1x128 t21
  have t23 : FVec F S1x128 .f32 := row v19 v20 v28 v108 v132 v133 v136 (Scalar.ofBits .f32 0x45300000#32) ![22, 0] slices_S64x128_o22_0_S1x128 t22
  have t24 : FVec F S1x128 .f32 := row v19 v20 v28 v108 v132 v133 v136 (Scalar.ofBits .f32 0x45380000#32) ![23, 0] slices_S64x128_o23_0_S1x128 t23
  have t25 : FVec F S1x128 .f32 := row v19 v20 v28 v108 v132 v133 v136 (Scalar.ofBits .f32 0x45400000#32) ![24, 0] slices_S64x128_o24_0_S1x128 t24
  have t26 : FVec F S1x128 .f32 := row v19 v20 v28 v108 v132 v133 v136 (Scalar.ofBits .f32 0x45480000#32) ![25, 0] slices_S64x128_o25_0_S1x128 t25
  have t27 : FVec F S1x128 .f32 := row v19 v20 v28 v108 v132 v133 v136 (Scalar.ofBits .f32 0x45500000#32) ![26, 0] slices_S64x128_o26_0_S1x128 t26
  have t28 : FVec F S1x128 .f32 := row v19 v20 v28 v108 v132 v133 v136 (Scalar.ofBits .f32 0x45580000#32) ![27, 0] slices_S64x128_o27_0_S1x128 t27
  have t29 : FVec F S1x128 .f32 := row v19 v20 v28 v108 v132 v133 v136 (Scalar.ofBits .f32 0x45600000#32) ![28, 0] slices_S64x128_o28_0_S1x128 t28
  have t30 : FVec F S1x128 .f32 := row v19 v20 v28 v108 v132 v133 v136 (Scalar.ofBits .f32 0x45680000#32) ![29, 0] slices_S64x128_o29_0_S1x128 t29
  have t31 : FVec F S1x128 .f32 := row v19 v20 v28 v108 v132 v133 v136 (Scalar.ofBits .f32 0x45700000#32) ![30, 0] slices_S64x128_o30_0_S1x128 t30
  have t32 : FVec F S1x128 .f32 := row v19 v20 v28 v108 v132 v133 v136 (Scalar.ofBits .f32 0x45780000#32) ![31, 0] slices_S64x128_o31_0_S1x128 t31
  have t33 : FVec F S1x128 .f32 := row v19 v20 v28 v108 v132 v133 v136 (Scalar.ofBits .f32 0x45800000#32) ![32, 0] slices_S64x128_o32_0_S1x128 t32
  have t34 : FVec F S1x128 .f32 := row v19 v20 v28 v108 v132 v133 v136 (Scalar.ofBits .f32 0x45840000#32) ![33, 0] slices_S64x128_o33_0_S1x128 t33
  have t35 : FVec F S1x128 .f32 := row v19 v20 v28 v108 v132 v133 v136 (Scalar.ofBits .f32 0x45880000#32) ![34, 0] slices_S64x128_o34_0_S1x128 t34
  have t36 : FVec F S1x128 .f32 := row v19 v20 v28 v108 v132 v133 v136 (Scalar.ofBits .f32 0x458C0000#32) ![35, 0] slices_S64x128_o35_0_S1x128 t35
  have t37 : FVec F S1x128 .f32 := row v19 v20 v28 v108 v132 v133 v136 (Scalar.ofBits .f32 0x45900000#32) ![36, 0] slices_S64x128_o36_0_S1x128 t36
  have t38 : FVec F S1x128 .f32 := row v19 v20 v28 v108 v132 v133 v136 (Scalar.ofBits .f32 0x45940000#32) ![37, 0] slices_S64x128_o37_0_S1x128 t37
  have t39 : FVec F S1x128 .f32 := row v19 v20 v28 v108 v132 v133 v136 (Scalar.ofBits .f32 0x45980000#32) ![38, 0] slices_S64x128_o38_0_S1x128 t38
  have t40 : FVec F S1x128 .f32 := row v19 v20 v28 v108 v132 v133 v136 (Scalar.ofBits .f32 0x459C0000#32) ![39, 0] slices_S64x128_o39_0_S1x128 t39
  have t41 : FVec F S1x128 .f32 := row v19 v20 v28 v108 v132 v133 v136 (Scalar.ofBits .f32 0x45A00000#32) ![40, 0] slices_S64x128_o40_0_S1x128 t40
  have t42 : FVec F S1x128 .f32 := row v19 v20 v28 v108 v132 v133 v136 (Scalar.ofBits .f32 0x45A40000#32) ![41, 0] slices_S64x128_o41_0_S1x128 t41
  have t43 : FVec F S1x128 .f32 := row v19 v20 v28 v108 v132 v133 v136 (Scalar.ofBits .f32 0x45A80000#32) ![42, 0] slices_S64x128_o42_0_S1x128 t42
  have t44 : FVec F S1x128 .f32 := row v19 v20 v28 v108 v132 v133 v136 (Scalar.ofBits .f32 0x45AC0000#32) ![43, 0] slices_S64x128_o43_0_S1x128 t43
  have t45 : FVec F S1x128 .f32 := row v19 v20 v28 v108 v132 v133 v136 (Scalar.ofBits .f32 0x45B00000#32) ![44, 0] slices_S64x128_o44_0_S1x128 t44
  have t46 : FVec F S1x128 .f32 := row v19 v20 v28 v108 v132 v133 v136 (Scalar.ofBits .f32 0x45B40000#32) ![45, 0] slices_S64x128_o45_0_S1x128 t45
  have t47 : FVec F S1x128 .f32 := row v19 v20 v28 v108 v132 v133 v136 (Scalar.ofBits .f32 0x45B80000#32) ![46, 0] slices_S64x128_o46_0_S1x128 t46
  have t48 : FVec F S1x128 .f32 := row v19 v20 v28 v108 v132 v133 v136 (Scalar.ofBits .f32 0x45BC0000#32) ![47, 0] slices_S64x128_o47_0_S1x128 t47
  have t49 : FVec F S1x128 .f32 := row v19 v20 v28 v108 v132 v133 v136 (Scalar.ofBits .f32 0x45C00000#32) ![48, 0] slices_S64x128_o48_0_S1x128 t48
  have t50 : FVec F S1x128 .f32 := row v19 v20 v28 v108 v132 v133 v136 (Scalar.ofBits .f32 0x45C40000#32) ![49, 0] slices_S64x128_o49_0_S1x128 t49
  have t51 : FVec F S1x128 .f32 := row v19 v20 v28 v108 v132 v133 v136 (Scalar.ofBits .f32 0x45C80000#32) ![50, 0] slices_S64x128_o50_0_S1x128 t50
  have t52 : FVec F S1x128 .f32 := row v19 v20 v28 v108 v132 v133 v136 (Scalar.ofBits .f32 0x45CC0000#32) ![51, 0] slices_S64x128_o51_0_S1x128 t51
  have t53 : FVec F S1x128 .f32 := row v19 v20 v28 v108 v132 v133 v136 (Scalar.ofBits .f32 0x45D00000#32) ![52, 0] slices_S64x128_o52_0_S1x128 t52
  have t54 : FVec F S1x128 .f32 := row v19 v20 v28 v108 v132 v133 v136 (Scalar.ofBits .f32 0x45D40000#32) ![53, 0] slices_S64x128_o53_0_S1x128 t53
  have t55 : FVec F S1x128 .f32 := row v19 v20 v28 v108 v132 v133 v136 (Scalar.ofBits .f32 0x45D80000#32) ![54, 0] slices_S64x128_o54_0_S1x128 t54
  have t56 : FVec F S1x128 .f32 := row v19 v20 v28 v108 v132 v133 v136 (Scalar.ofBits .f32 0x45DC0000#32) ![55, 0] slices_S64x128_o55_0_S1x128 t55
  have t57 : FVec F S1x128 .f32 := row v19 v20 v28 v108 v132 v133 v136 (Scalar.ofBits .f32 0x45E00000#32) ![56, 0] slices_S64x128_o56_0_S1x128 t56
  have t58 : FVec F S1x128 .f32 := row v19 v20 v28 v108 v132 v133 v136 (Scalar.ofBits .f32 0x45E40000#32) ![57, 0] slices_S64x128_o57_0_S1x128 t57
  have t59 : FVec F S1x128 .f32 := row v19 v20 v28 v108 v132 v133 v136 (Scalar.ofBits .f32 0x45E80000#32) ![58, 0] slices_S64x128_o58_0_S1x128 t58
  have t60 : FVec F S1x128 .f32 := row v19 v20 v28 v108 v132 v133 v136 (Scalar.ofBits .f32 0x45EC0000#32) ![59, 0] slices_S64x128_o59_0_S1x128 t59
  have t61 : FVec F S1x128 .f32 := row v19 v20 v28 v108 v132 v133 v136 (Scalar.ofBits .f32 0x45F00000#32) ![60, 0] slices_S64x128_o60_0_S1x128 t60
  have t62 : FVec F S1x128 .f32 := row v19 v20 v28 v108 v132 v133 v136 (Scalar.ofBits .f32 0x45F40000#32) ![61, 0] slices_S64x128_o61_0_S1x128 t61
  have t63 : FVec F S1x128 .f32 := row v19 v20 v28 v108 v132 v133 v136 (Scalar.ofBits .f32 0x45F80000#32) ![62, 0] slices_S64x128_o62_0_S1x128 t62
  have t64 : FVec F S1x128 .f32 := row v19 v20 v28 v108 v132 v133 v136 (Scalar.ofBits .f32 0x45FC0000#32) ![63, 0] slices_S64x128_o63_0_S1x128 t63
  t64

/-- The lanes summed and divided by the number of pixels. -/
def last (t : FVec F S1x128 .f32) : FVec F S1x1 .f32 :=
  have v7753 : FVec F S1x1x128 .f32 := shapeCast S1x1x128 t shapeCasts_S1x128_S1x1x128
  have v7754 : FVec F S1 .f32 := multiReduction .add [1, 2] S1 v7753 0x00000000#32 reduces_S1x1x128_S1 (.inl rfl) rfl
  have v7755 : FVec F S1x1x1 .f32 := shapeCast S1x1x1 v7754 shapeCasts_S1_S1x1x1
  have v7756 : F .f32 := extractAt ![0, 0, 0] v7755 inpos_S1x1x1_p0_0_0
  have v7757 : FVec F S1x1 .f32 := broadcast S1x1 v7756
  divf v7757 (broadcast S1x1 (Scalar.ofBits .f32 0x4B000000#32))

/-- The table of the segments' steps. -/
def table (v21 : Vec F S1x256 .f32) : FVec F S4x256 .f32 :=
  have v28 : FVec F S1x256 .f32 := k2_pay5 v21
  have v37 : IVec S1x256 32 := iota .tc S1x256 32 [1] iota_S1x256_d1_w32
  have c : F .f32 := Scalar.ofBits .f32 0x4AFFFFFE#32
  k2_pay14 (k2_pay9 v28 v37 c) (k2_pay10 v28 v37 (k2_pay8 v21) c) (k2_pay11 (k2_pay8 v21)) (k2_pay12 v28 (k2_pay6 (F := F)) v37 (k2_pay7 (F := F)) (k2_pay8 v21) c) k2_pay13

/-- The loss from the counts and the target as a row and as a column. -/
def loss (v0 : Vec F S32x64x128 .i32) (v21 : Vec F S1x256 .f32) (v109 : Vec F S256x1 .f32) : FVec F S1x1 .f32 :=
  last (rows (k2_pay3 v0) (k2_pay4 v0) (k2_pay5 v21) (table v21) (k2_pay15 v109) (iota .tc S256x128 32 [0] iota_S256x128_d0_w32) (k2_pay17 (F := F)))

/-- The body: three reads, the result stored. -/
def body (arg0 : Memref sig .tc .vmem S32x64x128 .i32) (arg1 : Memref sig .tc .vmem S1x256 .f32) (arg2 : Memref sig .tc .vmem S256x1 .f32) (arg3 : Memref sig .tc .vmem S1x1 .f32) :
    Prog (TpuEff nD τ sig (Elt F) Λ₀ .tc) PUnit := do
  let v0 : Vec F S32x64x128 .i32 ← Prog.lift (.load arg0 (Rect.unit (s := S32x64x128) ![0, 0, 0] S32x64x128.size inb_S32x64x128_S32x64x128_0_0_0).toLoadRect (View.loadsAt_vmem h_S32x64x128))
  let v21 : Vec F S1x256 .f32 ← Prog.lift (.load arg1 (Rect.unit (s := S1x256) ![0, 0] S1x256.size inb_S1x256_S1x256_0_0).toLoadRect (View.loadsAt_vmem h_S1x256))
  let v109 : Vec F S256x1 .f32 ← Prog.lift (.load arg2 (Rect.unit (s := S256x1) ![0, 0] S256x1.size inb_S256x1_S256x1_0_0).toLoadRect (View.loadsAt_vmem h_S256x1))
  let _ ← Prog.lift (.load arg3 (Rect.unit (s := S1x1) ![0, 0] S1x1.size inb_S1x1_S1x1_0_0).toLoadRect (View.loadsAt_vmem h_S1x1))
  Prog.lift (.store arg3 (Rect.unit (s := S1x1) ![0, 0] S1x1.size inb_S1x1_S1x1_0_0) (loss v0 v21 v109) Finset.univ (View.stores_vmem_bits_univ h_S1x1 rfl) (.inl rfl))
  pure ⟨⟩

theorem body_eq (arg0 : Memref sig .tc .vmem S32x64x128 .i32) (h0 : arg0.IsWhole) (arg1 : Memref sig .tc .vmem S1x256 .f32) (h1 : arg1.IsWhole)
    (arg2 : Memref sig .tc .vmem S256x1 .f32) (h2 : arg2.IsWhole) (arg3 : Memref sig .tc .vmem S1x1 .f32) (h3 : arg3.IsWhole) :
    cc2__assemble_body (F := F) arg0 h0 arg1 h1 arg2 h2 arg3 h3 = body arg0 arg1 arg2 arg3 := rfl

end Cert.KernelIdeal.Asm

end
-- ==== Proof.RegionI.lean ====
/-
  The two TensorCore stages as regions of the program, each entered while the core owes what the SparseCore call still asks
  of it. The last stage reads the counts and the target, each whole, and leaves one number: `Asm.loss` of them.
-/
module

public import proofs.«01_k».proof.Proof.ValueI
public import proofs.«01_k».proof.Proof.AsmI

@[expose] public section

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

variable (m : (ℓ : Loc nD τ sig) → Buf (Elt F) ℓ)

/-! ## The last stage's body -/

set_option maxHeartbeats 1000000 in
/-- The body on whole staging buffers: it keeps the three it reads and leaves the loss in the fourth. -/
theorem asm_triple (c : Dev nD) (E : Set ℕ) (a0 : Memref sig .tc .vmem S32x64x128 .i32) (h0 : a0.IsWhole)
    (a1 : Memref sig .tc .vmem S1x256 .f32) (h1 : a1.IsWhole) (a2 : Memref sig .tc .vmem S256x1 .f32) (h2 : a2.IsWhole)
    (a3 : Memref sig .tc .vmem S1x1 .f32) (h3 : a3.IsWhole) (x : Vec F S32x64x128 .i32) (y : Vec F S1x256 .f32) (z : Vec F S256x1 .f32) (Q : PUnit → sProp 𝕄) :
    iprop(owns (c : Thread nD τ) a0 fullShare x ∗ owns (c : Thread nD τ) a1 fullShare y ∗ owns (c : Thread nD τ) a2 fullShare z
        ∗ (∃ d, owns (c : Thread nD τ) a3 fullShare d)
        ∗ (iprop(owns (c : Thread nD τ) a0 fullShare x ∗ owns (c : Thread nD τ) a1 fullShare y ∗ owns (c : Thread nD τ) a2 fullShare z
            ∗ owns (c : Thread nD τ) a3 fullShare (Asm.loss x y z)) -∗ Q ⟨⟩))
      ⊢ wp frame (wpE (defs₀ (F := F)) 𝒱₀ c none) E (cc2__assemble_body a0 h0 a1 h1 a2 h2 a3 h3) Q := by
  rw [Asm.body_eq]; unfold Asm.body
  unfold owns
  iintro ⟨⟨%f, %hf, H0⟩, ⟨%g, %hg, H1⟩, ⟨%k, %hk, H2⟩, ⟨%d, %e, -, H3⟩, HQ⟩
  subst hf hg hk
  sl_exec
  sl_step
  iapply HQ
  isplitl [H0]
  · iexists f; isplitr
    · ipureintro; rfl
    iexact H0
  isplitl [H1]
  · iexists g; isplitr
    · ipureintro; rfl
    iexact H1
  isplitl [H2]
  · iexists k; isplitr
    · ipureintro; rfl
    iexact H2
  iexists _; isplitr
  swap
  · iexact H3
  ipureintro
  rw [View.read_writes_eq_canon _ _ _ (fun i => ⟨_, List.mem_singleton_self _, View.mem_set_unit_zero (by decide) inb_S1x1_S1x1_0_0 i⟩)]
  refine (View.canon_unit_zero (by decide) inb_S1x1_S1x1_0_0 _).trans ?_
  have e0 : View.readAt (Elt F) a0.view (Rect.unit ![0, 0, 0] S32x64x128.size inb_S32x64x128_S32x64x128_0_0_0).toLoadRect f = View.read (Elt F) a0.view f :=
    View.ld_unit_zero (by decide) inb_S32x64x128_S32x64x128_0_0_0 (View.read (Elt F) a0.view f)
  have e1 : View.readAt (Elt F) a1.view (Rect.unit ![0, 0] S1x256.size inb_S1x256_S1x256_0_0).toLoadRect g = View.read (Elt F) a1.view g :=
    View.ld_unit_zero (by decide) inb_S1x256_S1x256_0_0 (View.read (Elt F) a1.view g)
  have e2 : View.readAt (Elt F) a2.view (Rect.unit ![0, 0] S256x1.size inb_S256x1_S256x1_0_0).toLoadRect k = View.read (Elt F) a2.view k :=
    View.ld_unit_zero (by decide) inb_S256x1_S256x1_0_0 (View.read (Elt F) a2.view k)
  rw [e0, e1, e2]

/-! ## Its pipeline's proof data -/

/-- The counts as the last stage reads them, -/
def tab (c : Dev nD) : IVec S32x64x128 32 := shapeCast S32x64x128 (counts (flat (image m c))) shapeCasts_S32x8192_S32x64x128
/-- the target as device `c` holds it at launch, -/
abbrev target (c : Dev nD) : FVec F S256 .f32 := m ((c : Thread nD τ).loc main_arg1)
/-- as a row, -/
def tdRow (c : Dev nD) : FVec F S1x256 .f32 := shapeCast S1x256 (target m c) shapeCasts_S256_S1x256
/-- and as a column. -/
def tdCol (c : Dev nD) : FVec F S256x1 .f32 := shapeCast S256x1 (target m c) shapeCasts_S256_S256x1
/-- The loss as the last stage leaves it. -/
def lossArr (c : Dev nD) : FVec F S1x1 .f32 := Asm.loss (tab m c) (tdRow m c) (tdCol m c)

/-- What the arrays hold when the last stage starts. -/
def arr2 (c : Dev nD) (w : Fin cfg2.W) : Buf (Elt F) ((c : Thread nD τ).loc (Pipeline.arrRef spec2 w)) :=
  match w with
  | ⟨0, _⟩ => tab m c
  | ⟨1, _⟩ => tdRow m c
  | ⟨2, _⟩ => tdCol m c
  | ⟨3, _⟩ => m ((c : Thread nD τ).loc main_v6)

/-- The three inputs stay, the result is computed. -/
def dat2 (c : Dev nD) : Dat τ (Elt F) (HIx 1) ℕ UU ℕ cfg2 c where
  A w := arr2 m c w
  after w _ := match w with
    | ⟨0, _⟩ => tab m c
    | ⟨1, _⟩ => tdRow m c
    | ⟨2, _⟩ => tdCol m c
    | ⟨3, _⟩ => lossArr m c
  Φ _ := Pipeline.scopedRest spec2 c
  q _ := fullShare
  owed _ := (K (F := F)).Otc c 1
  recorded _ := {p | (K (F := F)).lev (SparseCore.T c, p.1) p.2 ≤ 8 * 1}

theorem dat2_A (c : Dev nD) (w : Fin cfg2.W) : (dat2 m c).A w = arr2 m c w := by dsimp only [dat2]
theorem dat2_after0 (c : Dev nD) (t : Fin cfg2.N) : (dat2 m c).after 0 t = tab m c := by dsimp only [dat2]
theorem dat2_after1 (c : Dev nD) (t : Fin cfg2.N) : (dat2 m c).after 1 t = tdRow m c := by dsimp only [dat2]
theorem dat2_after2 (c : Dev nD) (t : Fin cfg2.N) : (dat2 m c).after 2 t = tdCol m c := by dsimp only [dat2]
theorem dat2_after3 (c : Dev nD) (t : Fin cfg2.N) : (dat2 m c).after 3 t = lossArr m c := by dsimp only [dat2]

theorem emb0 (t : Fin cfg2.N) (y : S32x64x128.Idx) : (win2_0.rect t).emb y = y :=
  funext fun a => Fin.ext (win2_0.rect_emb_val_of_index_zero t a (by match a with | ⟨0, _⟩ => rfl | ⟨1, _⟩ => rfl | ⟨2, _⟩ => rfl) y)
theorem emb1 (t : Fin cfg2.N) (y : S1x256.Idx) : (win2_1.rect t).emb y = y :=
  funext fun a => Fin.ext (win2_1.rect_emb_val_of_index_zero t a (by match a with | ⟨0, _⟩ => rfl | ⟨1, _⟩ => rfl) y)
theorem emb2 (t : Fin cfg2.N) (y : S256x1.Idx) : (win2_2.rect t).emb y = y :=
  funext fun a => Fin.ext (win2_2.rect_emb_val_of_index_zero t a (by match a with | ⟨0, _⟩ => rfl | ⟨1, _⟩ => rfl) y)
theorem emb3 (t : Fin cfg2.N) (y : S1x1.Idx) : (win2_3.rect t).emb y = y :=
  funext fun a => Fin.ext (win2_3.rect_emb_val_of_index_zero t a (by match a with | ⟨0, _⟩ => rfl | ⟨1, _⟩ => rfl) y)

/-- Each window's block is its whole array. -/
theorem read0 (t : Fin cfg2.N) (X : IVec S32x64x128 32) : ((cfg2.win 0).blk t).view.read (Elt F) X = X := by
  funext y
  show X ((win2_0.rect t).emb y) = X y
  rw [emb0]
theorem read1 (t : Fin cfg2.N) (X : FVec F S1x256 .f32) : ((cfg2.win 1).blk t).view.read (Elt F) X = X := by
  funext y
  show X ((win2_1.rect t).emb y) = X y
  rw [emb1]
theorem read2 (t : Fin cfg2.N) (X : FVec F S256x1 .f32) : ((cfg2.win 2).blk t).view.read (Elt F) X = X := by
  funext y
  show X ((win2_2.rect t).emb y) = X y
  rw [emb2]
theorem read3 (t : Fin cfg2.N) (X : FVec F S1x1 .f32) : ((cfg2.win 3).blk t).view.read (Elt F) X = X := by
  funext y
  show X ((win2_3.rect t).emb y) = X y
  rw [emb3]

theorem dat2_before0 (c : Dev nD) (t : Fin cfg2.N) (d) : (dat2 m c).before 0 t d = tab m c :=
  ((dat2 m c).before_in_eq_fetched 0 rfl (fun _ => rfl) (fun _ _ _ => rfl)
      (fun t => by rw [dat2_after0]; unfold Dat.blockOf; rw [dat2_A]; exact (read0 (F := F) t (tab m c)).symm) t d).trans
    (by unfold Dat.fetched Dat.blockOf; rw [dat2_A]; exact read0 (F := F) t (tab m c))
theorem dat2_before1 (c : Dev nD) (t : Fin cfg2.N) (d) : (dat2 m c).before 1 t d = tdRow m c :=
  ((dat2 m c).before_in_eq_fetched 1 rfl (fun _ => rfl) (fun _ _ _ => rfl)
      (fun t => by rw [dat2_after1]; unfold Dat.blockOf; rw [dat2_A]; exact (read1 (F := F) t (tdRow m c)).symm) t d).trans
    (by unfold Dat.fetched Dat.blockOf; rw [dat2_A]; exact read1 (F := F) t (tdRow m c))
theorem dat2_before2 (c : Dev nD) (t : Fin cfg2.N) (d) : (dat2 m c).before 2 t d = tdCol m c :=
  ((dat2 m c).before_in_eq_fetched 2 rfl (fun _ => rfl) (fun _ _ _ => rfl)
      (fun t => by rw [dat2_after2]; unfold Dat.blockOf; rw [dat2_A]; exact (read2 (F := F) t (tdCol m c)).symm) t d).trans
    (by unfold Dat.fetched Dat.blockOf; rw [dat2_A]; exact read2 (F := F) t (tdCol m c))

theorem asm_at (c : Dev nD) (t : Fin cfg2.N) :
    iprop((dat2 m c).Φ t.castSucc ∗ (dat2 m c).owesAt none t.castSucc
        ∗ (∃ d, owns (c : Thread nD τ) (st2_0 t) fullShare ((dat2 m c).before 0 t d))
        ∗ (∃ d, owns (c : Thread nD τ) (st2_1 t) fullShare ((dat2 m c).before 1 t d))
        ∗ (∃ d, owns (c : Thread nD τ) (st2_2 t) fullShare ((dat2 m c).before 2 t d))
        ∗ (∃ d, owns (c : Thread nD τ) (st2_3 t) fullShare ((dat2 m c).before 3 t d)))
      ⊢ wp frame (wpE (defs₀ (F := F)) 𝒱₀ c none) Set.univ (bodyAt2 t) fun _ =>
          iprop((dat2 m c).Φ t.succ ∗ (dat2 m c).owesAt none t.succ
            ∗ owns (c : Thread nD τ) (st2_0 t) fullShare ((dat2 m c).after 0 t)
            ∗ owns (c : Thread nD τ) (st2_1 t) fullShare ((dat2 m c).after 1 t)
            ∗ owns (c : Thread nD τ) (st2_2 t) fullShare ((dat2 m c).after 2 t)
            ∗ owns (c : Thread nD τ) (st2_3 t) fullShare ((dat2 m c).after 3 t)) := by
  unfold bodyAt2
  simp only [dat2_before0, dat2_before1, dat2_before2]
  rw [show (dat2 m c).Φ t.succ = (dat2 m c).Φ t.castSucc from rfl,
    show (dat2 m c).owesAt none t.succ = (dat2 m c).owesAt none t.castSucc from rfl, dat2_after0, dat2_after1, dat2_after2, dat2_after3]
  iintro ⟨HΦ, HO, ⟨%d0, H0⟩, ⟨%d1, H1⟩, ⟨%d2, H2⟩, ⟨%d3, H3⟩⟩
  iapply (asm_triple c Set.univ _ _ _ _ _ _ _ _ (tab m c) (tdRow m c) (tdCol m c) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

theorem defs₀_asm (t : Fin cfg2.N) : defs₀ (F := F) .tc cfg2.body (cfg2.bodyArgs t (cfg2.slots t)) = bodyAt2 t := rfl

theorem asm_ok (c : Dev nD) : BodyObligation (dat2 (F := F) m c) (defs₀ (F := F)) 𝒱₀ none Set.univ := fun t => by
  rw [bigSep_W2, bigSep_W2, defs₀_asm]
  exact triple_restated (asm_at m c t) rfl .rfl fun _ => .rfl

/-- The pipeline leaves the loss. -/
theorem loss_eq (c : Dev nD) : (dat2 m c).arrAt 3 cfg2.N = (lossArr m c : Buf (Elt F) ((c : Thread nD τ).loc main_v6)) :=
  (dat2 m c).arrAt_eq_of_cover 3 (lossArr m c)
    (fun t _ => by
      show (cfg2.win 3).cut (grid2.coords t) ((dat2 m c).after 3 t) = _
      rw [dat2_after3]
      exact (read3 t (lossArr m c)).symm)
    (fun i => ⟨t2_0, flush2_3 t2_0, by
      have h := View.emb_mem_set ((cfg2.win 3).blk t2_0).view (i : S1x1.Idx)
      exact (emb3 t2_0 i) ▸ h⟩)

/-! ## The regions -/

/-- No pipeline prefetches anything. -/
abbrev adm : (p : Fin 2) → (pcfgs (F := F) p).Adm := fun p => (cfgs p).toPCfg_adm

/-- The proof data of both pipelines. -/
def dats (p : Fin 2) (c : Dev nD) : Dat τ (Elt F) (HIx 1) ℕ UU ℕ (cfgs p) c :=
  match p with
  | ⟨0, _⟩ => dat0 m c
  | ⟨1, _⟩ => dat2 m c

/-- What the core owes the SparseCore call is owed at a stage of the call, never at a wait of its own. -/
theorem Otc_none (c : Dev nD) (n : ℕ) (g : GSem nD τ sig) : (K (F := F)).Otc c n g none = 0 := by
  by_contra h
  have h' := SparseCore.Cfg.lev_of_Otc_pos (K := K (F := F)) (Nat.pos_of_ne_zero h)
  rw [SparseCore.Cfg.lev_none] at h'
  omega

/-- The two arrays of the bucket stage, one by one. -/
theorem arrays_two (c : Dev nD) (G : (w : Fin cfg0.W) → Buf (Elt F) ((cfg0.spec w).arr.view.loc (c.tc : Thread nD τ))) :
    (dat0 m c).arrays G = iprop(((c : Thread nD τ).loc main_arg0 ↦{fullShare} G 0) ∗ ((c : Thread nD τ).loc main_v0 ↦{fullShare} G 1)) := by
  unfold Dat.arrays
  rw [bigSep_W0, (arr_whole0 0).set_eq_univ, (arr_whole0 1).set_eq_univ, (dat0 m c).share_full (fun _ => rfl) 0,
    (dat0 m c).share_full (fun _ => rfl) 1]

/-- The bucket stage as a region of @main: from the two arrays as launched to the result at `bucketArr`. -/
def region0 : Pipeline.RegionSeg (pcfgs (F := F)) adm (dats m) none defs₀ 𝒱₀ (K (F := F)).L (K (F := F)).lev 0 where
  win := launch0.win.to₀
  block_pos := block_pos0
  stage_whole := stage_whole0
  K := PEmpty
  osem k := k.elim
  ho := Pipeline.OwnSemFacts.none _
  hbody c := (body_ok m c).loose
  hwaits c := Pipeline.cellsWaits_intro (Pipeline.pin pcfgs adm) (dats m) none 0 c fun w s t => (K (F := F)).mayWait_none _ (Otc_none c 0)
  pre c := iprop(((c : Thread nD τ).loc main_arg0 ↦{fullShare} m ((c : Thread nD τ).loc main_arg0))
      ∗ ((c : Thread nD τ).loc main_v0 ↦{fullShare} m ((c : Thread nD τ).loc main_v0))
      ∗ ∃ W, ⌜(K (F := F)).WBelow (SparseCore.T c) W (8 * 0)⌝ ∗ owes (c : Thread nD τ) ((K (F := F)).Otc c 0) W)
  post c := iprop(((c : Thread nD τ).loc main_arg0 ↦{fullShare} m ((c : Thread nD τ).loc main_arg0))
      ∗ ((c : Thread nD τ).loc main_v0 ↦{fullShare} (bucketArr m c : Buf (Elt F) ((c : Thread nD τ).loc main_v0)))
      ∗ ∃ W, ⌜(K (F := F)).WBelow (SparseCore.T c) W (8 * 0)⌝ ∗ owes (c : Thread nD τ) ((K (F := F)).Otc c 0) W)
  X _ := BI.emp
  Y _ := BI.emp
  Z _ := BI.emp
  hentry c := by
    rw [Pipeline.ownSems0_none, Pipeline.prefHeld_of_none _ rfl]
    iintro ⟨⟨Hx, Ho, %W, %hW, HO⟩, -, -⟩
    imodintro
    isplitl [Hx Ho]
    · iapply (Entails.of_eq (arrays_two m c ((dat0 m c).arrAt · 0)).symm)
      isplitl [Hx]; · iexact Hx
      iexact Ho
    isplitr; · iempintro
    isplitl [HO]
    · unfold Dat.owesAt Pipeline.owesWithin Dat.bound
      iexists W; isplitr
      · ipureintro; exact fun p hp => Or.inl (hW p hp)
      iexact HO
    isplitr <;> iempintro
  hin c := by
    show iprop(BI.emp ∗ _ ∗ Pipeline.scopedRest spec0 c) ⊢ Pipeline.scopedRest spec0 c
    iintro ⟨-, -, H⟩
    iexact H
  hout c := by
    rw [Pipeline.ownSems0_none]
    show (Pipeline.scopedRest spec0 c : sProp 𝕄) ⊢ iprop(BI.emp ∗ BI.emp ∗ Pipeline.scopedRest spec0 c)
    iintro H
    isplitr; · iempintro
    isplitr; · iempintro
    iexact H
  hexit c := by
    show iprop((dat0 m c).arrays ((dat0 m c).arrAt · cfg0.N) ∗ (dat0 m c).owesAt none (Fin.last cfg0.N) ∗ _ ∗ _) ⊢ _
    iintro ⟨Ha, HO, -, -⟩
    ihave Ha := (Entails.of_eq (arrays_two m c ((dat0 m c).arrAt · cfg0.N))) $$ Ha
    icases Ha with ⟨Hx, Ho⟩
    unfold Dat.owesAt Pipeline.owesWithin Dat.bound
    icases HO with ⟨%W, %hW, HO⟩
    imodintro
    isplitl [Hx]
    · rw [show (dat0 m c).arrAt 0 cfg0.N = m ((c : Thread nD τ).loc main_arg0) from ((dat0 m c).arrAt_in 0 rfl _).trans (dats_A m c 0)]
      iexact Hx
    isplitl [Ho]; · iexact Ho
    iexists W; isplitr
    · ipureintro
      intro p hp
      rcases hW hp with h | ⟨w, s, rfl⟩
      · exact h
      · exact Nat.zero_le _
    iexact HO

/-- The four arrays of the last stage, one by one. -/
theorem arrays_four (c : Dev nD) (G : (w : Fin cfg2.W) → Buf (Elt F) ((cfg2.spec w).arr.view.loc (c.tc : Thread nD τ))) :
    (dat2 m c).arrays G = iprop(((c : Thread nD τ).loc main_v3 ↦{fullShare} G 0) ∗ ((c : Thread nD τ).loc main_v4 ↦{fullShare} G 1)
      ∗ ((c : Thread nD τ).loc main_v5 ↦{fullShare} G 2) ∗ ((c : Thread nD τ).loc main_v6 ↦{fullShare} G 3)) := by
  unfold Dat.arrays
  rw [bigSep_W2, (arr_whole2 0).set_eq_univ, (arr_whole2 1).set_eq_univ, (arr_whole2 2).set_eq_univ, (arr_whole2 3).set_eq_univ,
    (dat2 m c).share_full (fun _ => rfl) 0, (dat2 m c).share_full (fun _ => rfl) 1, (dat2 m c).share_full (fun _ => rfl) 2,
    (dat2 m c).share_full (fun _ => rfl) 3]

/-- The last stage as a region of @main: from the counts and the target to the loss. -/
def region2 : Pipeline.RegionSeg (pcfgs (F := F)) adm (dats m) none defs₀ 𝒱₀ (K (F := F)).L (K (F := F)).lev 1 where
  win := launch2.win.to₀
  block_pos := block_pos2
  stage_whole := stage_whole2
  K := PEmpty
  osem k := k.elim
  ho := Pipeline.OwnSemFacts.none _
  hbody c := (asm_ok m c).loose
  hwaits c := Pipeline.cellsWaits_intro (Pipeline.pin pcfgs adm) (dats m) none 1 c fun w s t => (K (F := F)).mayWait_none _ (Otc_none c 1)
  pre c := iprop(((c : Thread nD τ).loc main_v3 ↦{fullShare} (tab m c : Buf (Elt F) ((c : Thread nD τ).loc main_v3)))
      ∗ ((c : Thread nD τ).loc main_v4 ↦{fullShare} (tdRow m c : Buf (Elt F) ((c : Thread nD τ).loc main_v4)))
      ∗ ((c : Thread nD τ).loc main_v5 ↦{fullShare} (tdCol m c : Buf (Elt F) ((c : Thread nD τ).loc main_v5)))
      ∗ ((c : Thread nD τ).loc main_v6 ↦{fullShare} m ((c : Thread nD τ).loc main_v6))
      ∗ ∃ W, ⌜(K (F := F)).WBelow (SparseCore.T c) W (8 * 1)⌝ ∗ owes (c : Thread nD τ) ((K (F := F)).Otc c 1) W)
  post c := iprop(((c : Thread nD τ).loc main_v6 ↦{fullShare} (lossArr m c : Buf (Elt F) ((c : Thread nD τ).loc main_v6)))
      ∗ ∃ W, ⌜(K (F := F)).WBelow (SparseCore.T c) W (8 * 1)⌝ ∗ owes (c : Thread nD τ) ((K (F := F)).Otc c 1) W)
  X _ := BI.emp
  Y _ := BI.emp
  Z _ := BI.emp
  hentry c := by
    rw [Pipeline.ownSems0_none, Pipeline.prefHeld_of_none _ rfl]
    iintro ⟨⟨H0, H1, H2, H3, %W, %hW, HO⟩, -, -⟩
    imodintro
    isplitl [H0 H1 H2 H3]
    · iapply (Entails.of_eq (arrays_four m c ((dat2 m c).arrAt · 0)).symm)
      isplitl [H0]; · iexact H0
      isplitl [H1]; · iexact H1
      isplitl [H2]; · iexact H2
      iexact H3
    isplitr; · iempintro
    isplitl [HO]
    · unfold Dat.owesAt Pipeline.owesWithin Dat.bound
      iexists W; isplitr
      · ipureintro; exact fun p hp => Or.inl (hW p hp)
      iexact HO
    isplitr <;> iempintro
  hin c := by
    show iprop(BI.emp ∗ _ ∗ Pipeline.scopedRest spec2 c) ⊢ Pipeline.scopedRest spec2 c
    iintro ⟨-, -, H⟩
    iexact H
  hout c := by
    rw [Pipeline.ownSems0_none]
    show (Pipeline.scopedRest spec2 c : sProp 𝕄) ⊢ iprop(BI.emp ∗ BI.emp ∗ Pipeline.scopedRest spec2 c)
    iintro H
    isplitr; · iempintro
    isplitr; · iempintro
    iexact H
  hexit c := by
    show iprop((dat2 m c).arrays ((dat2 m c).arrAt · cfg2.N) ∗ (dat2 m c).owesAt none (Fin.last cfg2.N) ∗ _ ∗ _) ⊢ _
    iintro ⟨Ha, HO, -, -⟩
    ihave Ha := (Entails.of_eq (arrays_four m c ((dat2 m c).arrAt · cfg2.N))) $$ Ha
    icases Ha with ⟨-, -, -, H3⟩
    unfold Dat.owesAt Pipeline.owesWithin Dat.bound
    icases HO with ⟨%W, %hW, HO⟩
    imodintro
    isplitl [H3]
    · rw [loss_eq]
      iexact H3
    iexists W; isplitr
    · ipureintro
      intro p hp
      rcases hW hp with h | ⟨w, s, rfl⟩
      · exact h
      · exact Nat.zero_le _
    iexact HO

end Cert.KernelIdeal.Hist

end
-- ==== Proof.LaunchI.lean ====
/-
  The whole program: the bucket stage as a region on each TensorCore, the reshape of its result to one flat array, the one
  SparseCore call, whose 32 tasks each read the flat array at a share of their own and own one row of the counts, the reshapes
  of the counts and of the target, and the last stage as a second region. The run ends with the loss `lossOf m d` on every
  device, the arguments as launched and every semaphore back at zero.
-/
module

public import proofs.«01_k».proof.Proof.RegionI
public import Idealize.ShloMosaic.Lib.SparseCore.Quiescent
public import Idealize.ShloMosaic.Lib.StableHlo.Run

@[expose] public section

set_option maxRecDepth 16384

noncomputable section

namespace Cert.KernelIdeal.Hist

open Cert.KernelIdeal Cert.KernelIdeal.Gen
open Cert.Proof.Count (cnt)

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.Transfers (shareTok shareTokN shareDrop pointsTo_toks_split)

variable {F : FTy → Type} [FloatOps F] [Named F]

local notation "𝕄" => MT nD τ sig (HIx 1) (Elt F) ℕ UU ℕ
local notation "inV" => (Memref.whole Cert.KernelIdeal.main_v1_scv : Memref Cert.KernelIdeal.sig Kind.scVector Space.hbm Cert.KernelIdeal.S8388608 EltTy.i32)
local notation "outV" => (Memref.whole Cert.KernelIdeal.main_v2_scv : Memref Cert.KernelIdeal.sig Kind.scVector Space.hbm Cert.KernelIdeal.S32x8192 EltTy.i32)
local notation "sW" => (Memref.whole Cert.KernelIdeal.cc1_scratch0 : Memref Cert.KernelIdeal.sig Kind.scVector Space.vmem Cert.KernelIdeal.S65536 EltTy.i32)
local notation "sB" => (Memref.whole Cert.KernelIdeal.cc1_scratch1 : Memref Cert.KernelIdeal.sig Kind.scVector Space.vmem Cert.KernelIdeal.S8192 EltTy.i32)

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH 𝕄 := embL
/-- The pipeline's rounds inside the ghost state. -/
def EP : Emb UP 𝕄 := (Emb.inl : Emb UP (UP × Counters)).trans embR
instance EP_landsIn : (EP (F := F)).LandsIn (upEmb : UEmb _ 𝕄) := by unfold EP; infer_instance

variable (m : (ℓ : Loc nD τ sig) → Buf (Elt F) ℓ) (ρ : Dev nD → PrngReg)

/-! ## What the call carries -/

/-- The flat array of bucket numbers on device `d`. -/
abbrev arr (d : Dev nD) : IVec S8388608 32 := flat (image m d)
/-- The image of task `(c, i)`. -/
abbrev imgOf (c : Fin 2) (i : Fin 16) : Fin 32 := ⟨2 * i.val + c.val, by omega⟩

/-- What the task of image `k` is given: the flat array at a share, its row as launched; -/
def taskIn (d : Dev nD) (k : Fin 32) : sProp 𝕄 :=
  iprop(inPts (F := F) d (shareTokN fullShare k.val) (arr m d) ∗ rowPts (F := F) d k (m (outLoc d)))
/-- what it hands back: its row at the counts. -/
def taskOut (d : Dev nD) (k : Fin 32) : sProp 𝕄 := rowPts (F := F) d k (counts (arr m d))

def P : (K (F := F)).Pay (nD := nD) (Val := Elt F) (Name := ℕ) (U := UU) where
  st := fun q d c => match q with
    | 0 => bigSep Finset.univ fun i : Fin ((K (F := F)).nSub 0) => taskIn m d (imgOf (Fin.cast nCore_zero c) (Fin.cast nSub_zero i))
  dn := fun q d c => match q with
    | 0 => bigSep Finset.univ fun i : Fin ((K (F := F)).nSub 0) => taskOut m d (imgOf (Fin.cast nCore_zero c) (Fin.cast nSub_zero i))
  go := fun q d c i => match q with | 0 => taskIn m d (imgOf (Fin.cast nCore_zero c) (Fin.cast nSub_zero i))
  td := fun q d c i => match q with | 0 => taskOut m d (imgOf (Fin.cast nCore_zero c) (Fin.cast nSub_zero i))
  x := fun _ _ => iprop(emp)

instance taskIn_storable (d : Dev nD) (k : Fin 32) : BI.Storable (upEmb : UEmb _ 𝕄) (taskIn m d k) := by
  unfold taskIn; infer_instance
instance taskOut_storable (d : Dev nD) (k : Fin 32) : BI.Storable (upEmb : UEmb _ 𝕄) (taskOut m d k) := by
  unfold taskOut; infer_instance

instance P_storable : (P (F := F) m).IsStorable where
  st q d c := match q with
    | 0 => (inferInstance : BI.Storable (upEmb : UEmb _ 𝕄)
        (bigSep Finset.univ fun i : Fin ((K (F := F)).nSub 0) => taskIn m d (imgOf (Fin.cast nCore_zero c) (Fin.cast nSub_zero i))))
  dn q d c := match q with
    | 0 => (inferInstance : BI.Storable (upEmb : UEmb _ 𝕄)
        (bigSep Finset.univ fun i : Fin ((K (F := F)).nSub 0) => taskOut m d (imgOf (Fin.cast nCore_zero c) (Fin.cast nSub_zero i))))
  go q d c i := match q with | 0 => taskIn_storable m d _
  td q d c i := match q with | 0 => taskOut_storable m d _

/-! ## The task's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__hist_body (coordsV c s)
          inV (Memref.isWhole_whole _) outV (Memref.isWhole_whole _) sW (Memref.isWhole_whole _) sB (Memref.isWhole_whole _)
          cc1_scoped0 cc1_scoped1) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (arr m d) (flat_lt _) _ O W hF hO _

theorem vecSplit : (K (F := F)).VecSplit' (P m) 0 := by
  intro d c
  show (P m).st 0 d c ⊢ |={Set.univ}=> iprop((P m).st 0 d c ∗ ((P m).dn 0 d c -∗ (P m).dn 0 d c))
  iintro H; imodintro
  isplitl [H]; · iexact H
  iintro H; iexact H

/-! ## The rows and the shares -/

theorem rowSet_eq (i : Fin 32) : rowSet i = (row i).set := by
  show ((View.whole (main_v2_scv : Ref sig .scVector)).slice (row i)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)
theorem out_rows (d : Dev nD) (f : Buf (Elt F) (outLoc d)) :
    (outLoc d ↦{fullShare} f : sProp 𝕄) = bigSep Finset.univ fun i : Fin 32 => outLoc d ↦[rowSet i]{fullShare} f := by
  rw [← pointsTo_biUnion Finset.univ (ℓ := outLoc d) rowSet rows_disjoint, rows_cover]; try rfl

/-- The 32 tasks are the images. -/
def tasks : Fin 2 × Fin 16 ≃ Fin 32 where
  toFun p := imgOf p.1 p.2
  invFun k := (⟨k.val % 2, by omega⟩, ⟨k.val / 2, by omega⟩)
  left_inv p := by
    rcases p with ⟨a, b⟩
    refine Prod.ext (Fin.ext ?_) (Fin.ext ?_)
    · show (2 * b.val + a.val) % 2 = a.val
      omega
    · show (2 * b.val + a.val) / 2 = b.val
      omega
  right_inv k := Fin.ext (show 2 * (k.val / 2) + k.val % 2 = k.val by omega)

theorem bigSep_all (Φ : Fin 32 → sProp 𝕄) :
    (bigSep Finset.univ fun c : Fin ((K (F := F)).nCore 0) => bigSep Finset.univ fun i : Fin ((K (F := F)).nSub 0) =>
        Φ (imgOf (Fin.cast nCore_zero c) (Fin.cast nSub_zero i)))
      = bigSep Finset.univ Φ := by
  rw [BI.bigSep_univ_equiv tasks Φ, BI.bigSep_univ_prod]
  rfl

theorem st0_eq (d : Dev nD) :
    (bigSep Finset.univ fun c : Fin ((K (F := F)).nCore 0) => (P m).st 0 d c : sProp 𝕄) = bigSep Finset.univ fun k : Fin 32 => taskIn m d k :=
  bigSep_all (fun k => taskIn m d k)
theorem dn0_eq (d : Dev nD) :
    (bigSep Finset.univ fun c : Fin ((K (F := F)).nCore 0) => (P m).dn 0 d c : sProp 𝕄) = bigSep Finset.univ fun k : Fin 32 => taskOut m d k :=
  bigSep_all (fun k => taskOut m d k)

theorem st0_intro (d : Dev nD) :
    iprop((inPts (F := F) d fullShare (arr m d)) ∗ (outLoc d ↦{fullShare} m (outLoc d)))
      ⊢ (bigSep Finset.univ fun c : Fin ((K (F := F)).nCore 0) => (P m).st 0 d c : sProp 𝕄) := by
  rw [st0_eq, out_rows]
  unfold taskIn
  rw [bigSep_sep']
  iintro ⟨Hx, Ho⟩
  ihave H := (pointsTo_toks_split fullShare 32) $$ Hx
  icases H with ⟨-, Hx⟩
  isplitl [Hx]; · iexact Hx
  iexact Ho

theorem dn0_elim (d : Dev nD) :
    (bigSep Finset.univ fun c : Fin ((K (F := F)).nCore 0) => (P m).dn 0 d c : sProp 𝕄)
      ⊢ outLoc d ↦{fullShare} (counts (arr m d) : Buf (Elt F) (outLoc d)) := by
  rw [dn0_eq, out_rows]
  exact Entails.of_eq rfl

/-! ## The launch element -/

def u₀ : UU := (initOf (K (F := F)).hsCells (K (F := F)).hsToks,
  (initOf (Pipeline.cells cfgs cellOf_inj) (Pipeline.launchToks cfgs cellOf_inj), 1))

/-- What the launch deals the TensorCore of `d`: the rounds of the two pipelines' cells. -/
def G (d : Dev nD) : sProp 𝕄 :=
  iprop((Pipeline.cellsGhost cfgs EP 0 d ∗ Pipeline.toksInit cfgs EP 0 d) ∗ (Pipeline.cellsGhost cfgs EP 1 d ∗ Pipeline.toksInit cfgs EP 1 d))

theorem both (Φ : Fin 2 → sProp 𝕄) : bigSep Finset.univ Φ = iprop(Φ 0 ∗ Φ 1) :=
  bigSep_univ_eq_bigSepL [(0 : Fin 2), (1 : Fin 2)] (by decide) (by decide) Φ

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  ihave HP := (Entails.of_eq (show (BI.own (embR ((initOf (Pipeline.cells cfgs cellOf_inj) (Pipeline.launchToks cfgs cellOf_inj), 1) : UP × Counters)) : sProp 𝕄)
    = BI.own (EP (initOf (Pipeline.cells cfgs cellOf_inj) (Pipeline.launchToks cfgs cellOf_inj))) from rfl)) $$ HP
  imod (Pipeline.fund_ghost cfgs EP cellOf_inj) $$ HP with ⟨Hg, Ht⟩
  imodintro
  isplitl [HH]; · iexact HH
  isplitl [Hg Ht]
  · unfold G
    rw [bigSep_sep', bigSep_sep', bigSep_sep']
    ihave Hg := (Entails.of_eq (bigSep_congr fun d _ => both fun p => Pipeline.cellsGhost cfgs EP p d)) $$ Hg
    ihave Ht := (Entails.of_eq (bigSep_congr fun d _ => both fun p => Pipeline.toksInit cfgs EP p d)) $$ Ht
    ihave Hg := (Entails.of_eq (bigSep_sep' _ _ _)) $$ Hg
    ihave Ht := (Entails.of_eq (bigSep_sep' _ _ _)) $$ Ht
    icases Hg with ⟨Hg0, Hg1⟩
    icases Ht with ⟨Ht0, Ht1⟩
    isplitl [Hg0 Ht0]
    · isplitl [Hg0]; · iexact Hg0
      iexact Ht0
    isplitl [Hg1]; · iexact Hg1
    iexact Ht1
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep (Finset.univ : Finset (Thread nD τ)) fun _ => iprop(emp)) = (iprop(emp) : sProp 𝕄) from bigSep_emp_const _]
  iempintro

/-! ## The statements of @main -/

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_v0 ↦{fullShare} W main_v0)
        ∗ (inLoc d ↦{fullShare} W main_v1) ∗ (outLoc d ↦{fullShare} W main_v2) ∗ ((SparseCore.T d).loc main_arg1 ↦{fullShare} W main_arg1)
        ∗ ((SparseCore.T d).loc main_v3 ↦{fullShare} W main_v3) ∗ ((SparseCore.T d).loc main_v4 ↦{fullShare} W main_v4)
        ∗ ((SparseCore.T d).loc main_v5 ↦{fullShare} W main_v5) ∗ ((SparseCore.T d).loc main_v6 ↦{fullShare} W main_v6)
        ∗ (SparseCore.T d).loc main_v7 ↦{fullShare} W main_v7) := by
  unfold unscopedBufs
  rw [show (Finset.univ.filter fun b : Ref sig .tc => ¬ b.isScoped)
      = {main_arg0, main_v0, main_v1, main_v2, main_arg1, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem pin_eq : (Pipeline.pin (pcfgs (F := F)) adm) = cfgs := rfl
theorem pin_inj : Function.Injective (Pipeline.cellOf (nD := nD) (τ := τ) (Pipeline.pin (pcfgs (F := F)) adm)) := cellOf_inj

/-- A stage's call, as the pipelines' own programs have it. -/
def stageCall (p : Fin 2) : Prog (TpuEff nD τ sig (Elt F) (ΛP (F := F)) .tc) PUnit := .op (.customCall (Pipeline.entry p) ()) fun x => .ret x

/-- A TensorCore stage, run from its region. -/
theorem stage_wp [∀ e, Nonempty (Elt F e)] (p : Fin 2)
    (R : Pipeline.RegionSeg (pcfgs (F := F)) adm (dats m) none defs₀ 𝒱₀ (K (F := F)).L (K (F := F)).lev p) (d : Dev nD) (Q : PUnit → sProp 𝕄) :
    iprop(((boundary (SparseCore.T d) ∗ R.post d) -∗ Q ⟨⟩) ∗ boundary (SparseCore.T d) ∗ R.pre d
        ∗ levAts (K (F := F)).L (K (F := F)).lev ∗ Pipeline.cellsGhost cfgs EP p d ∗ Pipeline.toksInit cfgs EP p d)
      ⊢ wp frame (wpE ((K (F := F)).defs (D (F := F))) 𝒱 (SparseCore.T d) none) Set.univ
          (Prog.lift (.customCall (SparseCore.inner (Pipeline.entry p)) ())) Q := by
  have hl : (Prog.lift (.customCall (SparseCore.inner (Pipeline.entry p)) ()) : Prog (TpuEff nD τ sig (Elt F) (SparseCore.Sig (ΛP (F := F)) 1) .tc) PUnit)
      = SparseCore.liftProg (stageCall (F := F) p) := rfl
  rw [hl]
  refine BI.Entails.trans ?_ ((K (F := F)).wp_liftProg (D (F := F)) 𝒱 (SparseCore.T d) Set.univ none (stageCall (F := F) p) Q)
  have h := Pipeline.RegionSeg.wp (pcfgs (F := F)) adm (dats m) none pin_inj EP defs₀ 𝒱₀ (K (F := F)).L (K (F := F)).lev R d none
    (fun _ h => absurd h (Option.not_mem_none _)) (fun x => .ret x) Q
  refine BI.Entails.trans ?_ h
  show (_ : sProp 𝕄) ⊢ _
  iintro ⟨Hk, Hb, Hpre, Hlv, Hg, Ht⟩
  isplitl [Hk]
  · iintro H
    rw [wp_ret]; imodintro
    iapply Hk; iexact H
  isplitl [Hb]; · iexact Hb
  isplitl [Hpre]; · iexact Hpre
  isplitl [Hlv]; · iexact Hlv
  isplitl [Hg]; · iexact Hg
  iexact Ht

abbrev r0 : DevRef τ sig := Proc.devRef .tc (main_v0 : Ref sig .tc)
abbrev r1 : DevRef τ sig := Proc.devRef .tc (main_v1 : Ref sig .tc)
abbrev S2 : Finset (DevRef τ sig) := {r0, r1}
abbrev opFlat : HloOp τ sig (Elt F) := StableHlo.reshape main_v0 main_v1 (rfl : (.i32 : EltTy) = .i32) shapeCasts_S32x512x512_S8388608

theorem flat_bufs : (opFlat (F := F)).bufs ⊆ S2 := show ({r0, r1} : Finset (DevRef τ sig)) ⊆ S2 by decide

theorem held_two (d : Dev nD) (W : Valuation τ sig (Elt F)) :
    (held (SparseCore.T d) S2 W : sProp 𝕄) = iprop(((SparseCore.T d).loc main_v0 ↦{fullShare} W r0) ∗ ((SparseCore.T d).loc main_v1 ↦{fullShare} W r1)) := by
  unfold held S2
  rw [SparseCore.bigSep_insert' (by decide), bigSep_singleton]

/-- The contents before the reshape. -/
def val (d : Dev nD) : Valuation τ sig (Elt F) :=
  Function.update (fun b => m ⟨d, b⟩) r0 (buckets (image m d) : IVec S32x512x512 32)
theorem val_r0 (d : Dev nD) : val m d r0 = (buckets (image m d) : IVec S32x512x512 32) := Function.update_self ..
theorem val_r1 (d : Dev nD) : val m d r1 = m (inLoc d) := Function.update_of_ne (by decide) ..

theorem flat_r1 (d : Dev nD) : (opFlat (F := F)).result (val m d) r1 = (arr m d : Buf (Elt F) (inLoc d)) := by
  unfold opFlat
  rw [StableHlo.reshape_result, val_r0]
  rfl

/-! ### The reshapes after the call -/

abbrev q2 : DevRef τ sig := Proc.devRef .tc (main_v2 : Ref sig .tc)
abbrev qa : DevRef τ sig := Proc.devRef .tc (main_arg1 : Ref sig .tc)
abbrev q3 : DevRef τ sig := Proc.devRef .tc (main_v3 : Ref sig .tc)
abbrev q4 : DevRef τ sig := Proc.devRef .tc (main_v4 : Ref sig .tc)
abbrev q5 : DevRef τ sig := Proc.devRef .tc (main_v5 : Ref sig .tc)
abbrev q6 : DevRef τ sig := Proc.devRef .tc (main_v6 : Ref sig .tc)
abbrev q7 : DevRef τ sig := Proc.devRef .tc (main_v7 : Ref sig .tc)
abbrev S5 : Finset (DevRef τ sig) := {q2, qa, q3, q4, q5}
abbrev S7 : Finset (DevRef τ sig) := {q6, q7}
abbrev opTab : HloOp τ sig (Elt F) := StableHlo.reshape main_v2 main_v3 (rfl : (.i32 : EltTy) = .i32) shapeCasts_S32x8192_S32x64x128
abbrev opRow : HloOp τ sig (Elt F) := StableHlo.reshape main_arg1 main_v4 (rfl : (.f32 : EltTy) = .f32) shapeCasts_S256_S1x256
abbrev opCol : HloOp τ sig (Elt F) := StableHlo.reshape main_arg1 main_v5 (rfl : (.f32 : EltTy) = .f32) shapeCasts_S256_S256x1
abbrev opOut : HloOp τ sig (Elt F) := StableHlo.reshape main_v6 main_v7 (rfl : (.f32 : EltTy) = .f32) shapeCasts_S1x1_S_

theorem tab_bufs : (opTab (F := F)).bufs ⊆ S5 := show ({q2, q3} : Finset (DevRef τ sig)) ⊆ S5 by decide
theorem row_bufs : (opRow (F := F)).bufs ⊆ S5 := show ({qa, q4} : Finset (DevRef τ sig)) ⊆ S5 by decide
theorem col_bufs : (opCol (F := F)).bufs ⊆ S5 := show ({qa, q5} : Finset (DevRef τ sig)) ⊆ S5 by decide
theorem out_bufs : (opOut (F := F)).bufs ⊆ S7 := show ({q6, q7} : Finset (DevRef τ sig)) ⊆ S7 by decide

theorem held_five (d : Dev nD) (W : Valuation τ sig (Elt F)) :
    (held (SparseCore.T d) S5 W : sProp 𝕄) = iprop((outLoc d ↦{fullShare} W q2) ∗ ((SparseCore.T d).loc main_arg1 ↦{fullShare} W qa)
      ∗ ((SparseCore.T d).loc main_v3 ↦{fullShare} W q3) ∗ ((SparseCore.T d).loc main_v4 ↦{fullShare} W q4)
      ∗ ((SparseCore.T d).loc main_v5 ↦{fullShare} W q5)) := by
  unfold held S5
  rw [SparseCore.bigSep_insert' (by decide), SparseCore.bigSep_insert' (by decide), SparseCore.bigSep_insert' (by decide),
    SparseCore.bigSep_insert' (by decide), bigSep_singleton]

theorem held_out (d : Dev nD) (W : Valuation τ sig (Elt F)) :
    (held (SparseCore.T d) S7 W : sProp 𝕄) = iprop(((SparseCore.T d).loc main_v6 ↦{fullShare} W q6) ∗ ((SparseCore.T d).loc main_v7 ↦{fullShare} W q7)) := by
  unfold held S7
  rw [SparseCore.bigSep_insert' (by decide), bigSep_singleton]

/-- The contents after the call, -/
def val1 (d : Dev nD) : Valuation τ sig (Elt F) :=
  Function.update (fun b => m ⟨d, b⟩) q2 (counts (arr m d) : IVec S32x8192 32)
theorem val1_q2 (d : Dev nD) : val1 m d q2 = (counts (arr m d) : IVec S32x8192 32) := Function.update_self ..
theorem val1_ne (d : Dev nD) {q : DevRef τ sig} (h : q ≠ q2) : val1 m d q = m ⟨d, q⟩ := Function.update_of_ne h ..
/-- after the three reshapes, -/
def val2 (d : Dev nD) : Valuation τ sig (Elt F) := (opCol (F := F)).result ((opRow (F := F)).result ((opTab (F := F)).result (val1 m d)))
/-- and after the last stage. -/
def val3 (d : Dev nD) : Valuation τ sig (Elt F) := Function.update (fun b => m ⟨d, b⟩) q6 (lossArr m d : FVec F S1x1 .f32)
theorem val3_q6 (d : Dev nD) : val3 m d q6 = (lossArr m d : FVec F S1x1 .f32) := Function.update_self ..
theorem val3_q7 (d : Dev nD) : val3 m d q7 = m ((SparseCore.T d).loc main_v7) := Function.update_of_ne (by decide) ..

theorem val2_qa (d : Dev nD) : val2 m d qa = m ((SparseCore.T d).loc main_arg1) := by
  unfold val2 opCol opRow opTab
  rw [StableHlo.reshape_result_ne _ _ _ _ _ _ _ (by decide), StableHlo.reshape_result_ne _ _ _ _ _ _ _ (by decide),
    StableHlo.reshape_result_ne _ _ _ _ _ _ _ (by decide)]
  exact val1_ne m d (by decide)
theorem val2_q3 (d : Dev nD) : val2 m d q3 = (tab m d : Buf (Elt F) ((SparseCore.T d).loc main_v3)) := by
  unfold val2 opCol opRow opTab
  rw [StableHlo.reshape_result_ne _ _ _ _ _ _ _ (by decide), StableHlo.reshape_result_ne _ _ _ _ _ _ _ (by decide),
    StableHlo.reshape_result, val1_q2]
  rfl
theorem val2_q4 (d : Dev nD) : val2 m d q4 = (tdRow m d : Buf (Elt F) ((SparseCore.T d).loc main_v4)) := by
  unfold val2 opCol opRow opTab
  rw [StableHlo.reshape_result_ne _ _ _ _ _ _ _ (by decide), StableHlo.reshape_result, StableHlo.reshape_result_ne _ _ _ _ _ _ _ (by decide),
    val1_ne m d (by decide)]
  rfl
theorem val2_q5 (d : Dev nD) : val2 m d q5 = (tdCol m d : Buf (Elt F) ((SparseCore.T d).loc main_v5)) := by
  unfold val2 opCol opRow opTab
  rw [StableHlo.reshape_result, StableHlo.reshape_result_ne _ _ _ _ _ _ _ (by decide), StableHlo.reshape_result_ne _ _ _ _ _ _ _ (by decide),
    val1_ne m d (by decide)]
  rfl

/-- The loss on device `d`: the program's result. -/
def lossOf (d : Dev nD) : FVec F S_ .f32 := shapeCast S_ (lossArr m d) shapeCasts_S1x1_S_
theorem out_q7 (d : Dev nD) : (opOut (F := F)).result (val3 m d) q7 = (lossOf m d : Buf (Elt F) ((SparseCore.T d).loc main_v7)) := by
  unfold opOut
  rw [StableHlo.reshape_result, val3_q6]
  rfl

/-- What the TensorCore owes around the call, taken out of its state and put back. -/
theorem tcSt_owes (d : Dev nD) (n : ℕ) :
    ((K (F := F)).tcSt EH d n : sProp 𝕄)
      ⊢ iprop((∃ W, ⌜(K (F := F)).WBelow (SparseCore.T d) W (8 * n)⌝ ∗ owes (SparseCore.T d) ((K (F := F)).Otc d n) W)
          ∗ ((∃ W, ⌜(K (F := F)).WBelow (SparseCore.T d) W (8 * n)⌝ ∗ owes (SparseCore.T d) ((K (F := F)).Otc d n) W) -∗ (K (F := F)).tcSt EH d n)) := by
  unfold SparseCore.Cfg.tcSt
  iintro ⟨HO, Hrest⟩
  isplitl [HO]; · iexact HO
  iintro HO
  isplitl [HO]; · iexact HO
  iexact Hrest

abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ (SparseCore.T d).loc main_v7 ↦{fullShare} (lossOf m d : Buf (Elt F) ((SparseCore.T d).loc main_v7)))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq]
  simp only [main, wp_bind, wp_pure]
  have hpost : (region0 m).post d = iprop(((SparseCore.T d).loc main_arg0 ↦{fullShare} m ((SparseCore.T d).loc main_arg0))
      ∗ ((SparseCore.T d).loc main_v0 ↦{fullShare} (bucketArr m d : Buf (Elt F) ((SparseCore.T d).loc main_v0)))
      ∗ ∃ W, ⌜(K (F := F)).WBelow (SparseCore.T d) W (8 * 0)⌝ ∗ owes (SparseCore.T d) ((K (F := F)).Otc d 0) W) := rfl
  have hpre : (region0 m).pre d = iprop(((SparseCore.T d).loc main_arg0 ↦{fullShare} m ((SparseCore.T d).loc main_arg0))
      ∗ ((SparseCore.T d).loc main_v0 ↦{fullShare} m ((SparseCore.T d).loc main_v0))
      ∗ ∃ W, ⌜(K (F := F)).WBelow (SparseCore.T d) W (8 * 0)⌝ ∗ owes (SparseCore.T d) ((K (F := F)).Otc d 0) W) := rfl
  have hpost2 : (region2 m).post d = iprop(((SparseCore.T d).loc main_v6 ↦{fullShare} (lossArr m d : Buf (Elt F) ((SparseCore.T d).loc main_v6)))
      ∗ ∃ W, ⌜(K (F := F)).WBelow (SparseCore.T d) W (8 * 1)⌝ ∗ owes (SparseCore.T d) ((K (F := F)).Otc d 1) W) := rfl
  have hpre2 : (region2 m).pre d = iprop(((SparseCore.T d).loc main_v3 ↦{fullShare} (tab m d : Buf (Elt F) ((SparseCore.T d).loc main_v3)))
      ∗ ((SparseCore.T d).loc main_v4 ↦{fullShare} (tdRow m d : Buf (Elt F) ((SparseCore.T d).loc main_v4)))
      ∗ ((SparseCore.T d).loc main_v5 ↦{fullShare} (tdCol m d : Buf (Elt F) ((SparseCore.T d).loc main_v5)))
      ∗ ((SparseCore.T d).loc main_v6 ↦{fullShare} m ((SparseCore.T d).loc main_v6))
      ∗ ∃ W, ⌜(K (F := F)).WBelow (SparseCore.T d) W (8 * 1)⌝ ∗ owes (SparseCore.T d) ((K (F := F)).Otc d 1) W) := rfl
  iintro ⟨#Hctx, Hst, ⟨Hb, ⟨Hx, Hv0, Hv1, Hv2, Ha, Hv3, Hv4, Hv5, Hv6, Hv7⟩, Hts, -⟩, HG0, HG1⟩
  ihave #Hlv := (SparseCore.Cfg.ctx_levAts κ) $$ Hctx
  ihave Hst := (tcSt_owes d 0) $$ Hst
  icases Hst with ⟨HO, Hst⟩
  iapply (stage_wp m 0 (region0 m) d)
  rw [hpost, hpre]
  isplitr [Hb Hx Hv0 HO HG0]
  · iintro ⟨Hb, ⟨Hx, Hv0, HO⟩⟩
    ihave Hst := Hst $$ HO
    iapply (wp_hlo_within 𝒱 (SparseCore.T d) none Set.univ (op := opFlat (F := F)) (S := S2) flat_bufs (V := val m d)) $$ [Hb Hv0 Hv1]
    · isplitl [Hb]; · iexact Hb
      rw [held_two, val_r0, val_r1, ← bucketArr_eq]
      isplitl [Hv0]; · iexact Hv0
      iexact Hv1
    iintro ⟨Hb, Hh⟩
    ihave Hh := (Entails.of_eq (held_two (F := F) d _)) $$ Hh
    icases Hh with ⟨-, Hv1⟩
    rw [flat_r1, wp_ret]; imodintro
    iapply ((K (F := F)).wp_run (D (F := F)) 𝒱 (EH := EH) (P := P m) κ d 0) $$ [Hst Hx Hv1 Hv2 Hb Hts Ha Hv3 Hv4 Hv5 Hv6 Hv7 HG1]
    isplitr; · iexact Hctx
    isplitl [Hst]; · iexact Hst
    isplitl [Hv1 Hv2]
    · iapply (st0_intro m d)
      isplitl [Hv1]; · iexact Hv1
      iexact Hv2
    iintro ⟨Hst, Hdn⟩
    ihave Hv2 := (dn0_elim m d) $$ Hdn
    iapply (wp_hlo_within 𝒱 (SparseCore.T d) none Set.univ (op := opTab (F := F)) (S := S5) tab_bufs (V := val1 m d)) $$ [Hb Hv2 Ha Hv3 Hv4 Hv5]
    · isplitl [Hb]; · iexact Hb
      rw [held_five, val1_q2, val1_ne m d (show qa ≠ q2 by decide), val1_ne m d (show q3 ≠ q2 by decide), val1_ne m d (show q4 ≠ q2 by decide),
        val1_ne m d (show q5 ≠ q2 by decide)]
      isplitl [Hv2]; · iexact Hv2
      isplitl [Ha]; · iexact Ha
      isplitl [Hv3]; · iexact Hv3
      isplitl [Hv4]; · iexact Hv4
      iexact Hv5
    iintro ⟨Hb, Hh⟩
    rw [wp_ret]; imodintro
    iapply (wp_hlo_within 𝒱 (SparseCore.T d) none Set.univ (op := opRow (F := F)) (S := S5) row_bufs (V := (opTab (F := F)).result (val1 m d))) $$ [Hb Hh]
    · isplitl [Hb]; · iexact Hb
      iexact Hh
    iintro ⟨Hb, Hh⟩
    rw [wp_ret]; imodintro
    iapply (wp_hlo_within 𝒱 (SparseCore.T d) none Set.univ (op := opCol (F := F)) (S := S5) col_bufs
      (V := (opRow (F := F)).result ((opTab (F := F)).result (val1 m d)))) $$ [Hb Hh]
    · isplitl [Hb]; · iexact Hb
      iexact Hh
    iintro ⟨Hb, Hh⟩
    rw [show (opCol (F := F)).result ((opRow (F := F)).result ((opTab (F := F)).result (val1 m d))) = val2 m d from rfl]
    ihave Hh := (Entails.of_eq (held_five (F := F) d (val2 m d))) $$ Hh
    rw [val2_qa, val2_q3, val2_q4, val2_q5, wp_ret]
    icases Hh with ⟨-, Ha, Hv3, Hv4, Hv5⟩
    imodintro
    rw [show ((0 : Fin 1).val + 1) = 1 from rfl]
    ihave Hst := (tcSt_owes d 1) $$ Hst
    icases Hst with ⟨HO, Hst⟩
    iapply (stage_wp m 1 (region2 m) d)
    rw [hpost2, hpre2]
    isplitr [Hb Hv3 Hv4 Hv5 Hv6 HO HG1]
    · iintro ⟨Hb, ⟨Hv6, HO⟩⟩
      ihave Hst := Hst $$ HO
      iapply (wp_hlo_within 𝒱 (SparseCore.T d) none Set.univ (op := opOut (F := F)) (S := S7) out_bufs (V := val3 m d)) $$ [Hb Hv6 Hv7]
      · isplitl [Hb]; · iexact Hb
        rw [held_out, val3_q6, val3_q7]
        isplitl [Hv6]; · iexact Hv6
        iexact Hv7
      iintro ⟨Hb, Hh⟩
      ihave Hh := (Entails.of_eq (held_out (F := F) d _)) $$ Hh
      icases Hh with ⟨-, Hv7⟩
      rw [out_q7, wp_ret]; imodintro
      imodintro
      isplitl [Hst]; · iexact Hst
      isplitr [Hb Hts]
      · isplitl [Hx]; · iexact Hx
        isplitl [Ha]; · iexact Ha
        iexact Hv7
      isplitl [Hb] <;> iassumption
    isplitl [Hb]; · iexact Hb
    isplitl [Hv3 Hv4 Hv5 Hv6 HO]
    · isplitl [Hv3]; · iexact Hv3
      isplitl [Hv4]; · iexact Hv4
      isplitl [Hv5]; · iexact Hv5
      isplitl [Hv6]; · iexact Hv6
      iexact HO
    isplitr; · iexact Hlv
    iexact HG1
  isplitl [Hb]; · iexact Hb
  isplitl [Hx Hv0 HO]
  · isplitl [Hx]; · iexact Hx
    isplitl [Hv0]; · iexact Hv0
    iexact HO
  isplitr; · iexact Hlv
  iexact HG0

def fq (d : Dev nD) (s' : Phys nD τ sig (Elt F)) : Prop :=
  s'.mem.mem ((SparseCore.T d).loc main_v7) = (lossOf m d : Buf (Elt F) ((SparseCore.T d).loc main_v7))
    ∧ s'.mem.mem ((SparseCore.T d).loc main_arg0) = m ((SparseCore.T d).loc main_arg0)
    ∧ s'.mem.mem ((SparseCore.T d).loc main_arg1) = m ((SparseCore.T d).loc main_arg1)

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := (SparseCore.T d).loc main_arg0) (I := Finset.univ) (q := fullShare)
    (f := m ((SparseCore.T d).loc main_arg0)))) $$ [HSI Hx]
  · isplitl [HSI] <;> iassumption
  icases H with ⟨%hx, HSI, -⟩
  ihave H := (persistent_entails_right (SI_pointsTo_agree (st := s') (ℓ := (SparseCore.T d).loc main_arg1) (I := Finset.univ) (q := fullShare)
    (f := m ((SparseCore.T d).loc main_arg1)))) $$ [HSI Ha]
  · isplitl [HSI] <;> iassumption
  icases H with ⟨%ha, HSI, -⟩
  ihave H := (SI_pointsTo_agree (st := s') (ℓ := (SparseCore.T d).loc main_v7) (I := Finset.univ) (q := fullShare)
    (f := (lossOf m d : Buf (Elt F) ((SparseCore.T d).loc main_v7)))) $$ [HSI Ho]
  · isplitl [HSI] <;> iassumption
  icases H with %ho
  ipureintro
  exact ⟨funext fun i => ho i (Finset.mem_univ i), funext fun i => hx i (Finset.mem_univ i), funext fun i => ha i (Finset.mem_univ i)⟩

/-! ## The run -/

def QC : PUnit × MemSt nD τ sig (Elt F) → Prop := fun r =>
  (∀ c : Dev nD, r.2.mem ((SparseCore.T c).loc main_v7) = (lossOf m c : Buf (Elt F) ((SparseCore.T c).loc main_v7))
      ∧ r.2.mem ((SparseCore.T c).loc main_arg0) = m ((SparseCore.T c).loc main_arg0)
      ∧ r.2.mem ((SparseCore.T c).loc main_arg1) = m ((SparseCore.T c).loc main_arg1))
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.KernelIdeal.Hist

end
-- ==== Proof.Ranks.lean ====
/-
  The arithmetic of the last stage over the reals: the quantile of a rank, its sum below a rank in closed form on each segment
  of the target, and the sum of the distances from a bucket's midpoint over the ranks of the bucket.
-/
module

public import Idealize.ShloMosaic.PureOps.Ideal
public import Mathlib.Tactic.Linarith
public import Mathlib.Tactic.FieldSimp
public import Mathlib.Tactic.Ring
public import Mathlib.Tactic.Positivity
public import Mathlib.Tactic.NormNum

@[expose] public section

namespace Cert.Proof.Ranks

open Finset

/-! ## Counting an initial run -/

/-- A property that holds downward below `n` holds exactly at the numbers below its count. -/
theorem lt_card_iff {n : ℕ} (p : ℕ → Prop) [DecidablePred p] (hp : ∀ i j, i ≤ j → j < n → p j → p i) (k : ℕ) (hk : k < n) :
    k < ((range n).filter p).card ↔ p k := by
  constructor
  · intro h
    by_contra hn
    have hs : (range n).filter p ⊆ range k := by
      intro i hi
      rw [mem_filter, mem_range] at hi
      rw [mem_range]
      by_contra hki
      exact hn (hp k i (by omega) hi.1 hi.2)
    have := card_le_card hs
    rw [card_range] at this
    omega
  · intro h
    have hs : range (k + 1) ⊆ (range n).filter p := by
      intro i hi
      rw [mem_range] at hi
      rw [mem_filter, mem_range]
      exact ⟨by omega, hp i k (by omega) hk h⟩
    have := card_le_card hs
    rw [card_range] at this
    omega

/-! ## The tables -/

section
variable (td : ℕ → ℝ) (ε : ℝ) (M : ℕ)

/-- The cumulative target. -/
noncomputable def tc (k : ℕ) : ℝ := ∑ j ∈ range (k + 1), td j

/-- The first rank of segment `k`. -/
noncomputable def lo (k : ℕ) : ℕ :=
  if k = 0 then 0 else if k = 255 then 2 ^ 30 else (min ((M : ℤ) + 1) (max 0 ⌈(M : ℝ) * tc td k⌉)).toNat

/-- The slope of segment `k`. -/
noncomputable def w (k : ℕ) : ℝ := 1 / (tc td (k + 1) - tc td k + ε)

/-- The quantile at the first rank of segment `k`. -/
noncomputable def qs (k : ℕ) : ℝ := ((k : ℝ) + ((lo td M k : ℝ) * (1 / M) - tc td k) * w td ε k) * (1 / 255)

/-- The step of the quantile from a rank to the next on segment `k`. -/
noncomputable def step (k : ℕ) : ℝ := w td ε k * (1 / (M * 255))

/-- The number of ranks of segment `k`. -/
noncomputable def len (k : ℕ) : ℝ := max ((lo td M (k + 1) : ℝ) - lo td M k) 0

/-- The sum of the quantiles of segment `k`. -/
noncomputable def seg (k : ℕ) : ℝ :=
  len td M k * qs td ε M k + step td ε M k * len td M k * (len td M k - 1) * (1 / 2)

/-- The sum of the quantiles of the segments before `k`. -/
noncomputable def pre (k : ℕ) : ℝ := ∑ i ∈ range k, seg td ε M i

/-- The sum of the quantiles below rank `m`, from segment `k`. -/
noncomputable def sumAt (k : ℕ) (m : ℝ) : ℝ :=
  pre td ε M k + (m - lo td M k) * qs td ε M k + step td ε M k * (m - lo td M k) * (m - lo td M k - 1) * (1 / 2)

/-- The segment of rank `m`. -/
noncomputable def top (m : ℕ) : ℕ := ((range 255).filter fun k => lo td M k ≤ m).card - 1

/-- The quantile of rank `m`. -/
noncomputable def quant (m : ℕ) : ℝ :=
  ((top td M m : ℝ) + ((m : ℝ) / M - tc td (top td M m)) * w td ε (top td M m)) / 255

end

variable {td : ℕ → ℝ} {ε : ℝ} {M : ℕ}

theorem tc_succ (k : ℕ) : tc td (k + 1) = tc td k + td (k + 1) := by
  unfold tc; rw [sum_range_succ]

theorem tc_le (hnn : ∀ k, k < 255 → 0 ≤ td (k + 1)) {i j : ℕ} (hij : i ≤ j) (hj : j ≤ 255) : tc td i ≤ tc td j := by
  induction j with
  | zero =>
    rw [Nat.le_zero.1 hij]
  | succ j ih =>
    rw [tc_succ]
    have := hnn j (by omega)
    rcases Nat.lt_or_ge i (j + 1) with h | h
    · have := ih (by omega) (by omega); linarith
    · have : i = j + 1 := by omega
      subst this; rw [tc_succ]

theorem lo_zero : lo td M 0 = 0 := by simp [lo]

theorem lo_le (k : ℕ) (hk : k ≤ 254) : lo td M k ≤ M + 1 := by
  unfold lo
  split
  · omega
  · rw [if_neg (by omega)]; omega

theorem lo_mono (hnn : ∀ k, k < 255 → 0 ≤ td (k + 1)) {i j : ℕ} (hij : i ≤ j) (hj : j ≤ 254) : lo td M i ≤ lo td M j := by
  unfold lo
  by_cases hi : i = 0
  · rw [if_pos hi]; omega
  · rw [if_neg hi, if_neg (by omega), if_neg (by omega), if_neg (by omega)]
    have h : ⌈(M : ℝ) * tc td i⌉ ≤ ⌈(M : ℝ) * tc td j⌉ :=
      Int.ceil_le_ceil (mul_le_mul_of_nonneg_left (tc_le hnn hij (by omega)) (Nat.cast_nonneg M))
    omega

/-- Below rank `M + 1`, a segment after the first has begun exactly where the cumulative target is at most the rank's level. -/
theorem lo_le_iff (hM : 0 < M) (k m : ℕ) (hk : k ≤ 254) (hk0 : k ≠ 0) (hm : m ≤ M) : lo td M k ≤ m ↔ tc td k ≤ (m : ℝ) / M := by
  have hMr : (0 : ℝ) < M := by exact_mod_cast hM
  rw [le_div_iff₀ hMr, lo, if_neg hk0, if_neg (by omega)]
  have : (tc td k * M ≤ (m : ℝ)) ↔ ⌈(M : ℝ) * tc td k⌉ ≤ (m : ℤ) := by
    rw [Int.ceil_le, mul_comm]; norm_cast
  rw [this]
  omega

theorem le_top (hnn : ∀ k, k < 255 → 0 ≤ td (k + 1)) (k m : ℕ) (hk : k ≤ 254) : lo td M k ≤ m ↔ k ≤ top td M m := by
  have h := fun k hk => lt_card_iff (n := 255) (fun k => lo td M k ≤ m)
    (fun i j hij hj h => (lo_mono hnn hij (by omega)).trans h) k hk
  have h0 := (h 0 (by omega)).2 (by rw [lo_zero]; omega)
  have := h k (by omega)
  rw [← this]
  unfold top
  omega

theorem top_le (m : ℕ) : top td M m ≤ 254 := by
  have := card_filter_le (range 255) fun k => lo td M k ≤ m
  rw [card_range] at this
  unfold top
  omega

theorem lo_top (hnn : ∀ k, k < 255 → 0 ≤ td (k + 1)) (m : ℕ) : lo td M (top td M m) ≤ m :=
  (le_top hnn _ m (top_le m)).2 le_rfl

theorem top_mono (hnn : ∀ k, k < 255 → 0 ≤ td (k + 1)) {m n : ℕ} (h : m ≤ n) : top td M m ≤ top td M n :=
  (le_top hnn _ n (top_le m)).1 ((lo_top hnn m).trans h)

/-! ## The sum of the quantiles below a rank -/

theorem sumAt_next (hnn : ∀ k, k < 255 → 0 ≤ td (k + 1)) (k : ℕ) (hk : k + 1 ≤ 254) :
    sumAt td ε M k (lo td M (k + 1)) = sumAt td ε M (k + 1) (lo td M (k + 1)) := by
  have hl : len td M k = (lo td M (k + 1) : ℝ) - lo td M k := by
    unfold len
    refine max_eq_left (sub_nonneg.2 ?_)
    exact_mod_cast lo_mono hnn (by omega) hk
  unfold sumAt
  rw [show pre td ε M (k + 1) = pre td ε M k + seg td ε M k from sum_range_succ _ _, seg, hl]
  ring

theorem sumAt_chain (hnn : ∀ k, k < 255 → 0 ≤ td (k + 1)) (m : ℕ) (k : ℕ) (d : ℕ) (hd : k + d ≤ 254)
    (h : ∀ j, k < j → j ≤ k + d → lo td M j = m) : sumAt td ε M k m = sumAt td ε M (k + d) m := by
  induction d with
  | zero => rfl
  | succ d ih =>
    rw [ih (by omega) fun j h1 h2 => h j h1 (by omega)]
    have := sumAt_next (ε := ε) hnn (k + d) (M := M) (by omega)
    rw [h (k + d + 1) (by omega) (by omega)] at this
    exact this

theorem sumAt_succ (k m : ℕ) (hM : 0 < M) : sumAt td ε M k (m + 1 : ℕ) = sumAt td ε M k m +
    ((k : ℝ) + ((m : ℝ) / M - tc td k) * w td ε k) / 255 := by
  have hMr : (M : ℝ) ≠ 0 := by exact_mod_cast hM.ne'
  unfold sumAt qs step
  push_cast
  field_simp
  ring

/-- The closed form at the segment of rank `m` is the sum of the quantiles of the ranks below `m`. -/
theorem sumAt_top (hnn : ∀ k, k < 255 → 0 ≤ td (k + 1)) (hM : 0 < M) (m : ℕ) :
    sumAt td ε M (top td M m) m = ∑ j ∈ range m, quant td ε M j := by
  induction m with
  | zero =>
    rw [sum_range_zero]
    have h := sumAt_chain (ε := ε) hnn 0 0 (top td M 0) (M := M) (by have := top_le (td := td) (M := M) 0; omega) (fun j _ h2 => by
      have := (le_top hnn j 0 (M := M) (by have := top_le (td := td) (M := M) 0; omega)).2 (by omega)
      omega)
    rw [Nat.zero_add] at h
    rw [← h]
    simp [sumAt, pre, lo_zero]
  | succ m ih =>
    rw [sum_range_succ, ← ih, quant, ← sumAt_succ _ _ hM]
    have hmono := top_mono (M := M) hnn (show m ≤ m + 1 by omega)
    obtain ⟨d, hd⟩ := Nat.exists_eq_add_of_le hmono
    have ht := top_le (td := td) (M := M) (m + 1)
    rw [show top td M (m + 1) = top td M m + d from hd]
    symm
    refine sumAt_chain hnn (m + 1) _ d (by omega) fun j h1 h2 => ?_
    have hj := (le_top hnn j (m + 1) (M := M) (by omega)).2 (by omega)
    have hj' : ¬ lo td M j ≤ m := fun h => by
      have := (le_top hnn j m (M := M) (by omega)).1 h; omega
    omega

/-! ## The rank at which the quantile crosses a level -/

/-- The level at which the quantile is `(k + t) / 255`. -/
noncomputable def cross (td : ℕ → ℝ) (ε : ℝ) (k : ℕ) (t : ℝ) : ℝ := tc td k + t * (tc td (k + 1) - tc td k + ε)

theorem w_mul (hnn : ∀ k, k < 255 → 0 ≤ td (k + 1)) (hε : 0 < ε) (k : ℕ) (hk : k ≤ 254) :
    0 < tc td (k + 1) - tc td k + ε ∧ 0 < w td ε k ∧ (tc td (k + 1) - tc td k + ε) * w td ε k = 1 := by
  have h : 0 < tc td (k + 1) - tc td k + ε := by
    have := hnn k (by omega); rw [tc_succ]; linarith
  refine ⟨h, one_div_pos.2 h, ?_⟩
  unfold w
  field_simp

theorem quant_le (hnn : ∀ k, k < 255 → 0 ≤ td (k + 1)) (hε : 0 < ε) (hM : 0 < M) (k : ℕ) (hk : k ≤ 254) (t : ℝ) (ht0 : 0 ≤ t)
    (m : ℕ) (hm : m ≤ M) (hs : k < 254 → (m : ℝ) / M < tc td (k + 1)) (h : (m : ℝ) / M ≤ cross td ε k t) :
    quant td ε M m ≤ ((k : ℝ) + t) / 255 := by
  have hl : top td M m ≤ k := by
    by_contra hc
    have h1 := (lo_le_iff hM (top td M m) m (top_le m) (by omega) hm).1 (lo_top hnn m)
    have h2 := tc_le hnn (show k + 1 ≤ top td M m by omega) (by have := top_le (td := td) (M := M) m; omega)
    have h3 := hs (by have := top_le (td := td) (M := M) m; omega)
    linarith
  unfold quant
  refine div_le_div_of_nonneg_right ?_ (by norm_num)
  obtain ⟨h0, hw, he⟩ := w_mul hnn hε (top td M m) (top_le m)
  rcases Nat.lt_or_ge (top td M m) k with hlt | hge
  · have hn : ¬ tc td (top td M m + 1) ≤ (m : ℝ) / M := fun hc => by
      have := (le_top hnn (top td M m + 1) m (M := M) (by omega)).1
        ((lo_le_iff hM _ m (by omega) (by omega) hm).2 hc)
      omega
    have h1 : ((m : ℝ) / M - tc td (top td M m)) * w td ε (top td M m) ≤ 1 := by
      rw [← he]; exact mul_le_mul_of_nonneg_right (by linarith) hw.le
    have h2 : (top td M m : ℝ) + 1 ≤ k := by exact_mod_cast hlt
    linarith
  · have hk' : top td M m = k := by omega
    rw [hk'] at he hw ⊢
    have h1 : ((m : ℝ) / M - tc td k) * w td ε k ≤ t := by
      calc ((m : ℝ) / M - tc td k) * w td ε k ≤ (t * (tc td (k + 1) - tc td k + ε)) * w td ε k :=
            mul_le_mul_of_nonneg_right (by unfold cross at h; linarith) hw.le
        _ = t := by rw [mul_assoc, he, mul_one]
    linarith

theorem le_quant (hnn : ∀ k, k < 255 → 0 ≤ td (k + 1)) (hε : 0 < ε) (hM : 0 < M) (k : ℕ) (hk : k ≤ 254) (t : ℝ) (ht0 : 0 ≤ t)
    (ht1 : t < 1) (m : ℕ) (hm : m ≤ M) (h : cross td ε k t < (m : ℝ) / M) :
    ((k : ℝ) + t) / 255 ≤ quant td ε M m := by
  obtain ⟨h0k, hwk, hek⟩ := w_mul hnn hε k hk
  have hck : tc td k ≤ cross td ε k t := by
    unfold cross; nlinarith
  have hl : k ≤ top td M m := by
    refine (le_top hnn k m hk).1 ?_
    by_cases h0 : k = 0
    · rw [h0, lo_zero]; omega
    · exact (lo_le_iff hM k m hk h0 hm).2 (by linarith)
  unfold quant
  refine div_le_div_of_nonneg_right ?_ (by norm_num)
  obtain ⟨h0, hw, he⟩ := w_mul hnn hε (top td M m) (top_le m)
  rcases Nat.lt_or_ge k (top td M m) with hlt | hge
  · have h1 := (lo_le_iff hM (top td M m) m (top_le m) (by omega) hm).1 (lo_top hnn m)
    have h2 : (k : ℝ) + 1 ≤ top td M m := by exact_mod_cast hlt
    have h3 : 0 ≤ ((m : ℝ) / M - tc td (top td M m)) * w td ε (top td M m) := mul_nonneg (by linarith) hw.le
    linarith
  · have hk' : top td M m = k := by omega
    rw [hk'] at he hw ⊢
    have h1 : t ≤ ((m : ℝ) / M - tc td k) * w td ε k := by
      calc t = (t * (tc td (k + 1) - tc td k + ε)) * w td ε k := by rw [mul_assoc, he, mul_one]
        _ ≤ ((m : ℝ) / M - tc td k) * w td ε k :=
            mul_le_mul_of_nonneg_right (by unfold cross at h; linarith) hwk.le
    linarith

/-! ## The distances over the ranks of a bucket -/

/-- The rank at which the quantile crosses the level `u`, kept within the ranks `a` to `e`. -/
noncomputable def split (M : ℕ) (u : ℝ) (a e : ℕ) : ℕ :=
  (min (e : ℤ) (max (a : ℤ) (min ((M : ℤ) + 1) (max 0 (⌊(M : ℝ) * u⌋ + 1))))).toNat

theorem lt_split (hM : 0 < M) (u : ℝ) (a e m : ℕ) (ha : a ≤ m) (he : m < e) (heM : e ≤ M + 1) : m < split M u a e ↔ (m : ℝ) / M ≤ u := by
  have hMr : (0 : ℝ) < M := by exact_mod_cast hM
  have : (m : ℝ) / M ≤ u ↔ (m : ℤ) ≤ ⌊(M : ℝ) * u⌋ := by
    rw [Int.le_floor, div_le_iff₀ hMr, mul_comm]; norm_cast
  rw [this]
  unfold split
  omega

theorem le_split (u : ℝ) (a e : ℕ) (hae : a ≤ e) : a ≤ split M u a e := by unfold split; omega
theorem split_le (u : ℝ) (a e : ℕ) : split M u a e ≤ e := by unfold split; omega

/-- What a bucket adds: the sum of the distances from its midpoint over its ranks. -/
theorem contrib_eq (S q : ℕ → ℝ) (hS : ∀ m, S m = ∑ j ∈ range m, q j) (v : ℝ) (a t e : ℕ) (hat : a ≤ t) (hte : t ≤ e)
    (h1 : ∀ m, a ≤ m → m < t → q m ≤ v) (h2 : ∀ m, t ≤ m → m < e → v ≤ q m) :
    v * (2 * t - a - e) + S a + S e - 2 * S t = ∑ m ∈ Ico a e, |v - q m| := by
  rw [← sum_Ico_consecutive _ hat hte]
  have e1 : ∑ m ∈ Ico a t, |v - q m| = v * (t - a) - (S t - S a) := by
    rw [hS, hS, ← sum_Ico_eq_sub _ hat, sum_congr rfl fun m hm => abs_of_nonneg (sub_nonneg.2 (h1 m (mem_Ico.1 hm).1 (mem_Ico.1 hm).2)),
      sum_sub_distrib, sum_const, Nat.card_Ico, nsmul_eq_mul, Nat.cast_sub hat]
    ring
  have e2 : ∑ m ∈ Ico t e, |v - q m| = (S e - S t) - v * (e - t) := by
    rw [hS, hS, ← sum_Ico_eq_sub _ hte, sum_congr rfl fun m hm => abs_of_nonpos (sub_nonpos.2 (h2 m (mem_Ico.1 hm).1 (mem_Ico.1 hm).2))]
    simp only [neg_sub]
    rw [sum_sub_distrib, sum_const, Nat.card_Ico, nsmul_eq_mul, Nat.cast_sub hte]
    ring
  rw [e1, e2]
  ring

/-- The ranks `0, …, A n - 1` taken run by run. -/
theorem sum_runs (A : ℕ → ℕ) (h0 : A 0 = 0) (hA : ∀ i, A i ≤ A (i + 1)) (n : ℕ) (f : ℕ → ℝ) :
    ∑ i ∈ range n, ∑ m ∈ Ico (A i) (A (i + 1)), f m = ∑ m ∈ range (A n), f m := by
  induction n with
  | zero => simp [h0]
  | succ n ih =>
    have h : ∀ n, A 0 ≤ A n := fun n => by rw [h0]; omega
    rw [sum_range_succ, ih, range_eq_Ico, range_eq_Ico, sum_Ico_consecutive _ (by omega) (hA n)]

/-- The last stage's total, bucket by bucket. -/
noncomputable def part (td : ℕ → ℝ) (ε : ℝ) (M : ℕ) (v : ℝ) (k : ℕ) (t : ℝ) (a e : ℕ) : ℝ :=
  v * (2 * (split M (cross td ε k t) a e : ℝ) - a - e) + sumAt td ε M (top td M a) a + sumAt td ε M (top td M e) e
    - 2 * sumAt td ε M (top td M (split M (cross td ε k t) a e)) (split M (cross td ε k t) a e)

theorem part_eq (hnn : ∀ k, k < 255 → 0 ≤ td (k + 1)) (hε : 0 < ε) (hM : 0 < M) (v : ℝ) (k : ℕ) (hk : k ≤ 254) (t : ℝ) (ht0 : 0 ≤ t)
    (ht1 : t < 1) (hv : v = ((k : ℝ) + t) / 255)
    (hs : k < 254 → ∀ m : ℕ, m ≤ M → (m : ℝ) / M ≤ cross td ε k t → (m : ℝ) / M < tc td (k + 1)) (a e : ℕ) (hae : a ≤ e) (he : e ≤ M + 1) :
    part td ε M v k t a e = ∑ m ∈ Ico a e, |v - quant td ε M m| := by
  refine contrib_eq (fun m => sumAt td ε M (top td M m) m) (quant td ε M) (fun m => sumAt_top hnn hM m) v a _ e
    (le_split _ a e hae) (split_le _ a e) (fun m h1 h2 => ?_) (fun m h1 h2 => ?_)
  · have hme : m < e := lt_of_lt_of_le h2 (split_le _ a e)
    rw [hv]
    have hu := (lt_split hM _ a e m h1 hme he).1 h2
    exact quant_le hnn hε hM k hk t ht0 m (by omega) (fun h => hs h m (by omega) hu) hu
  · have ham : a ≤ m := le_trans (le_split _ a e hae) h1
    rw [hv]
    refine le_quant hnn hε hM k hk t ht0 ht1 m (by omega) (not_le.1 fun h => ?_)
    have := (lt_split hM _ a e m ham h2 he).2 h
    omega

/-- The buckets' parts together: the sum over all ranks of the distance of the rank's midpoint from its quantile, where rank `m`
    lies in bucket `c m` and the buckets come in order. -/
theorem total_eq (hnn : ∀ k, k < 255 → 0 ≤ td (k + 1)) (hε : 0 < ε) (hM : 0 < M) (n : ℕ) (v : ℕ → ℝ) (k : ℕ → ℕ) (t : ℕ → ℝ)
    (hk : ∀ i, i < n → k i ≤ 254) (ht0 : ∀ i, i < n → 0 ≤ t i) (ht1 : ∀ i, i < n → t i < 1)
    (hv : ∀ i, i < n → v i = ((k i : ℝ) + t i) / 255)
    (hs : ∀ i, i < n → k i < 254 → ∀ m : ℕ, m ≤ M → (m : ℝ) / M ≤ cross td ε (k i) (t i) → (m : ℝ) / M < tc td (k i + 1))
    (A : ℕ → ℕ) (h0 : A 0 = 0) (hA : ∀ i, A i ≤ A (i + 1)) (hn : A n = M + 1) (c : ℕ → ℕ)
    (hc : ∀ i m, i < n → A i ≤ m → m < A (i + 1) → c m = i) :
    ∑ i ∈ range n, part td ε M (v i) (k i) (t i) (A i) (A (i + 1)) = ∑ m ∈ range (M + 1), |v (c m) - quant td ε M m| := by
  have hle : ∀ d i, A i ≤ A (i + d) := fun d i => by
    induction d with
    | zero => exact le_rfl
    | succ d ih => exact ih.trans (hA _)
  rw [← hn, ← sum_runs A h0 hA]
  refine sum_congr rfl fun i hi => ?_
  rw [mem_range] at hi
  rw [part_eq hnn hε hM (v i) (k i) (hk i hi) (t i) (ht0 i hi) (ht1 i hi) (hv i hi) (hs i hi) _ _ (hA i) (by
    rw [← hn]
    have := hle (n - (i + 1)) (i + 1)
    rwa [show i + 1 + (n - (i + 1)) = n by omega] at this)]
  refine sum_congr rfl fun m hm => ?_
  rw [mem_Ico] at hm
  rw [hc i m hi hm.1 hm.2]

/-- Columns taken as differences and summed up to the last one reached give that one. -/
theorem sum_steps (T : ℕ → ℝ) (l n : ℕ) (hl : l < n) :
    ∑ k ∈ range n, (T k - if k = 0 then 0 else T (k - 1)) * (if k ≤ l then 1 else 0) = T l := by
  have h : ∀ j, ∑ k ∈ range (j + 1), (T k - if k = 0 then 0 else T (k - 1)) = T j := fun j => by
    induction j with
    | zero => simp
    | succ j ih => rw [sum_range_succ, ih, if_neg (by omega), Nat.add_sub_cancel]; ring
  rw [← h l, ← sum_subset (range_subset_range.2 (show l + 1 ≤ n by omega))]
  · exact sum_congr rfl fun k hk => by rw [mem_range] at hk; rw [if_pos (show k ≤ l by omega), mul_one]
  · intro k _ hk
    rw [mem_range] at hk
    rw [if_neg (show ¬ k ≤ l by omega), mul_zero]

end Cert.Proof.Ranks

end
-- ==== Proof.Read.lean ====
/-
  Small facts for reading vector operations as real numbers: a mask as zero or one, sums of reals, the program's constants.
-/
module

public import Idealize.ShloMosaic.PureOps.Ideal.Laws
public import Idealize.ShloMosaic.Lib.StableHlo.Predicate
public import Mathlib.Tactic.Linarith
public import Mathlib.Tactic.FieldSimp
public import Mathlib.Tactic.Ring
public import Mathlib.Tactic.NormNum

@[expose] public section

noncomputable section

namespace Cert.Proof.Read

open Idealize.ShloMosaic Idealize.ShloMosaic.StableHlo.Predicate

/-! ## Words -/

theorem cmpi_sle {x y : ℕ} (hx : x < 2 ^ 31) (hy : y < 2 ^ 31) :
    IntOp.cmpi .sle (BitVec.ofNat 32 x) (BitVec.ofNat 32 y) = BitVec.ofBool (decide (x ≤ y)) := by
  show BitVec.ofBool _ = _
  rw [BitVec.sle_eq_decide, toInt_ofNat_small _ hx, toInt_ofNat_small _ hy]
  simp only [Nat.cast_le]

theorem cmpi_slt {x y : ℕ} (hx : x < 2 ^ 31) (hy : y < 2 ^ 31) :
    IntOp.cmpi .slt (BitVec.ofNat 32 x) (BitVec.ofNat 32 y) = BitVec.ofBool (decide (x < y)) := by
  show BitVec.ofBool _ = _
  rw [BitVec.slt_eq_decide, toInt_ofNat_small _ hx, toInt_ofNat_small _ hy]
  simp only [Nat.cast_lt]

theorem cmpi_eq {x y : ℕ} (hx : x < 2 ^ 31) (hy : y < 2 ^ 31) :
    IntOp.cmpi .eq (BitVec.ofNat 32 x) (BitVec.ofNat 32 y) = BitVec.ofBool (decide (x = y)) := by
  show BitVec.ofBool _ = _
  congr 1
  have h : (BitVec.ofNat 32 x = BitVec.ofNat 32 y) ↔ x = y := by
    constructor
    · intro h
      have := congrArg BitVec.toNat h
      simp only [BitVec.toNat_ofNat] at this
      omega
    · rintro rfl; rfl
  simp only [← h]
  rfl

theorem add_one (x : ℕ) : IntOp.addi (BitVec.ofNat 32 x) 1#32 = BitVec.ofNat 32 (x + 1) := by
  show BitVec.ofNat 32 x + 1#32 = _
  rw [BitVec.ofNat_add]

/-- One or zero. -/
def bit (p : Prop) [Decidable p] : ℝ := if p then 1 else 0

theorem mask (b : Bool) : FloatOps.sitofp (F := Ideal) .f32 (BitVec.setWidth 32 (BitVec.ofBool b)) = ((bit (b = true) : ℝ) : EReal) := by
  show ((((BitVec.setWidth 32 (BitVec.ofBool b)).toInt : ℤ) : ℝ) : EReal) = _
  cases b <;> simp [bit]

theorem mask_decide (p : Prop) [Decidable p] :
    FloatOps.sitofp (F := Ideal) .f32 (BitVec.setWidth 32 (BitVec.ofBool (decide p))) = ((bit p : ℝ) : EReal) := by
  rw [mask]
  congr 1
  simp [bit]

theorem sitofp_ofNat {x : ℕ} (hx : x < 2 ^ 31) : FloatOps.sitofp (F := Ideal) .f32 (BitVec.ofNat 32 x) = ((x : ℝ) : EReal) := by
  show ((((BitVec.ofNat 32 x).toInt : ℤ) : ℝ) : EReal) = _
  rw [toInt_ofNat_small _ hx]
  rfl

/-! ## Sums -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products whose second factors are real, the first factors real wherever the second is not zero. -/
theorem sum_mul {n : ℕ} (X : Fin n → EReal) (Y : Fin n → EReal) (f g : Fin n → ℝ) (hY : ∀ i, Y i = ((g i : ℝ) : EReal))
    (hX : ∀ i, X i = ((f i : ℝ) : EReal) ∨ g i = 0) : ∑ i, X i * Y i = ((∑ i, f i * g i : ℝ) : EReal) := by
  rw [← sum_coe]
  refine Finset.sum_congr rfl fun i _ => ?_
  rw [hY]
  rcases hX i with h | h
  · rw [h, EReal.coe_mul]
  · rw [h, mul_zero, EReal.coe_zero, mul_zero]

theorem sum_bit_le {n : ℕ} (f : ℕ → ℝ) (l : ℕ) (hl : l < n) :
    ∑ i : Fin n, f i.val * bit (i.val ≤ l) = ∑ i ∈ Finset.range (l + 1), f i := by
  rw [Fin.sum_univ_eq_sum_range (fun i => f i * bit (i ≤ l)) n,
    ← Finset.sum_subset (Finset.range_subset_range.2 (show l + 1 ≤ n by omega))]
  · exact Finset.sum_congr rfl fun i hi => by rw [Finset.mem_range] at hi; rw [bit, if_pos (show i ≤ l by omega), mul_one]
  · intro i _ hi
    rw [Finset.mem_range] at hi
    rw [bit, if_neg (show ¬ i ≤ l by omega), mul_zero]

theorem sum_bit_lt {n : ℕ} (f : ℕ → ℝ) (l : ℕ) (hl : l ≤ n) :
    ∑ i : Fin n, f i.val * bit (i.val < l) = ∑ i ∈ Finset.range l, f i := by
  rw [Fin.sum_univ_eq_sum_range (fun i => f i * bit (i < l)) n,
    ← Finset.sum_subset (Finset.range_subset_range.2 hl)]
  · exact Finset.sum_congr rfl fun i hi => by rw [Finset.mem_range] at hi; rw [bit, if_pos hi, mul_one]
  · intro i _ hi
    rw [Finset.mem_range] at hi
    rw [bit, if_neg hi, mul_zero]

theorem sum_bit_eq {n : ℕ} (f : ℕ → ℝ) (l : ℕ) (hl : l < n) :
    ∑ i : Fin n, f i.val * bit (i.val = l) = f l := by
  rw [Fin.sum_univ_eq_sum_range (fun i => f i * bit (i = l)) n, Finset.sum_eq_single l]
  · rw [bit, if_pos rfl, mul_one]
  · intro i _ hi; rw [bit, if_neg hi, mul_zero]
  · intro h; rw [Finset.mem_range] at h; omega

theorem div_coe_coe (x y : ℝ) (hy : y ≠ 0) : Ideal.div (x : EReal) (y : EReal) = ((x / y : ℝ) : EReal) := by
  rw [Ideal.div_coe hy, ← EReal.coe_mul]
  congr 1
  field_simp

theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem min_coe (x y : ℝ) : min (x : EReal) (y : EReal) = ((min x y : ℝ) : EReal) := by
  rcases le_total x y with h | h
  · rw [min_eq_left h, min_eq_left (EReal.coe_le_coe_iff.2 h)]
  · rw [min_eq_right h, min_eq_right (EReal.coe_le_coe_iff.2 h)]

/-! ## The constants -/

theorem ofBits_half : Ideal.ofBits .f32 0x3F000000#32 = ((1 / 2 : ℝ) : EReal) := by
  simp [Ideal.ofBits, Ideal.ieee]; rw [← EReal.coe_mul]; norm_num
theorem ofBits_one : Ideal.ofBits .f32 0x3F800000#32 = ((1 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_255 : Ideal.ofBits .f32 0x437F0000#32 = ((255 : ℝ) : EReal) := by
  simp [Ideal.ofBits, Ideal.ieee]; rw [← EReal.coe_mul]; norm_num
theorem ofBits_inv8192 : Ideal.ofBits .f32 0x39000000#32 = ((1 / 8192 : ℝ) : EReal) := by
  simp [Ideal.ofBits, Ideal.ieee]; rw [← EReal.coe_mul]; norm_num
theorem ofBits_8192 : Ideal.ofBits .f32 0x46000000#32 = ((8192 : ℝ) : EReal) := by
  simp [Ideal.ofBits, Ideal.ieee]; rw [← EReal.coe_mul]; norm_num
theorem ofBits_8388607 : Ideal.ofBits .f32 0x4AFFFFFE#32 = ((8388607 : ℝ) : EReal) := by
  simp [Ideal.ofBits, Ideal.ieee]; rw [← EReal.coe_mul]; norm_num
theorem ofBits_8388608 : Ideal.ofBits .f32 0x4B000000#32 = ((8388608 : ℝ) : EReal) := by
  simp [Ideal.ofBits, Ideal.ieee]
theorem ofBits_far : Ideal.ofBits .f32 0x4E800000#32 = ((1073741824 : ℝ) : EReal) := by
  simp [Ideal.ofBits, Ideal.ieee]; rw [← EReal.coe_pow, ← EReal.coe_mul]; norm_num

/-- The small number added to a segment's step before it is divided by. -/
def eps : ℝ := 11258999 * (2 : ℝ) ^ (-50 : ℤ)

theorem eps_pos : 0 < eps := by unfold eps; positivity

theorem ofBits_eps : Ideal.ofBits .f32 0x322BCC77#32 = ((eps : ℝ) : EReal) := by
  simp [Ideal.ofBits, Ideal.ieee, eps]

end Cert.Proof.Read

end
-- ==== Proof.Tables.lean ====
/-
  The tables of the last stage as real numbers: the cumulative target, the segments' first ranks, their quantiles, steps and
  sums, and what the tables' columns give at a rank.
-/
module

public import proofs.«01_k».proof.Proof.AsmI
public import proofs.«01_k».proof.Proof.Ranks
public import proofs.«01_k».proof.Proof.Read
public import Idealize.ShloMosaic.Lib.Pointwise
public import Idealize.ShloMosaic.Lib.IdealHost

@[expose] public section

set_option maxRecDepth 65536

noncomputable section

namespace Cert.KernelIdeal.Asm

open Cert.KernelIdeal Cert.KernelIdeal.Gen
open Idealize.ShloMosaic Idealize.SL.Sem
open Cert.Proof.Read Cert.Proof.Ranks

variable {td : ℕ → ℝ} {v21 : Vec Ideal S1x256 .f32} {v109 : Vec Ideal S256x1 .f32}

theorem pay5_val (hv : ∀ l : Fin 256, v21 (ix2 0 l) = ((td l.val : ℝ) : EReal)) (l : Fin 256) : k2_pay5 v21 (ix2 0 l) = ((tc td l.val : ℝ) : EReal) := by
  unfold k2_pay5
  pointwise
  rw [sum_mul _ _ (fun x => td x.val) (fun x => bit (x.val ≤ l.val)) (fun x => by
    rw [cmpi_sle (by have := x.isLt; omega) (by have := l.isLt; omega), mask_decide]) (fun x => Or.inl (hv x)),
    sum_bit_le td l.val l.isLt]
  rfl

/-- The matrix that shifts a row by one column. -/
theorem pay6_val (x l : Fin 256) : k2_pay6 (F := Ideal) (ix2 x l) = ((bit (x.val = l.val + 1) : ℝ) : EReal) := by
  unfold k2_pay6
  pointwise
  rw [add_one, cmpi_eq (by have := x.isLt; omega) (by have := l.isLt; omega), mask_decide]

theorem pay7_val (l : Fin 256) : k2_pay7 (F := Ideal) (ix2 0 l) = ((bit (l.val < 255) : ℝ) : EReal) := by
  unfold k2_pay7
  pointwise
  rw [show (255#32 : BitVec 32) = BitVec.ofNat 32 255 from rfl, cmpi_slt (by have := l.isLt; omega) (by omega), mask_decide]

theorem pay8_val (hv : ∀ l : Fin 256, v21 (ix2 0 l) = ((td l.val : ℝ) : EReal)) (hnn : ∀ k, k < 255 → 0 ≤ td (k + 1)) (l : Fin 256) (hl : l.val < 255) :
    k2_pay8 v21 (ix2 0 l) = ((w td eps l.val : ℝ) : EReal) := by
  unfold k2_pay8
  pointwise
  rw [sum_mul _ _ (fun x => tc td x.val) (fun x => bit (x.val = l.val + 1)) (fun x => pay6_val x l) (fun x => Or.inl (pay5_val hv x)),
    sum_bit_eq (tc td) (l.val + 1) (by omega), pay5_val hv, pay7_val, ofBits_eps, bit, if_pos hl, ← EReal.coe_sub, ← EReal.coe_add,
    div_coe_coe]
  · rfl
  · exact (w_mul hnn eps_pos l.val (by omega)).1.ne'

theorem lo_cast (k : ℕ) (h0 : k ≠ 0) (h : k ≠ 255) : (lo td 8388607 k : ℝ) = min 8388608 (max 0 (⌈(8388607 : ℝ) * tc td k⌉ : ℝ)) := by
  have e : ((lo td 8388607 k : ℤ)) = min 8388608 (max 0 ⌈(8388607 : ℝ) * tc td k⌉) := by
    rw [lo, if_neg h0, if_neg h, Int.toNat_of_nonneg (by positivity)]
    norm_num
  have := congrArg (fun z : ℤ => (z : ℝ)) e
  push_cast at this
  exact this

/-- The word that a comparison with a number gives picks by that comparison. -/
theorem pick {α : Type} (p : Prop) [Decidable p] (a b : α) : (if BitVec.ofBool (decide p) = 1 then a else b) = if p then a else b := by
  by_cases h : p <;> simp [h]

theorem lo_val (x : EReal) (k : ℕ) (hk : k < 256) (hx : x = ((tc td k : ℝ) : EReal)) :
    (if k = 255 then ((1073741824 : ℝ) : EReal) else if k = 0 then ((0 : ℝ) : EReal) else
      min ((8388608 : ℝ) : EReal) (max ((0 : ℝ) : EReal) (Ideal.liftRound Int.ceil (((8388607 : ℝ) : EReal) * x)))) = ((lo td 8388607 k : ℝ) : EReal) := by
  by_cases h : k = 255
  · rw [if_pos h, h]
    norm_num [lo]
  · rw [if_neg h]
    by_cases h0 : k = 0
    · rw [if_pos h0, h0, lo_zero, Nat.cast_zero]
    · rw [if_neg h0, hx, ← EReal.coe_mul, lo_cast k h0 h]
      show min _ (max _ (((⌈(8388607 : ℝ) * tc td k⌉ : ℝ)) : EReal)) = _
      rw [max_coe, min_coe]

theorem pay9_val (hv : ∀ l : Fin 256, v21 (ix2 0 l) = ((td l.val : ℝ) : EReal)) (l : Fin 256) :
    k2_pay9 (F := Ideal) (k2_pay5 v21) (iota .tc S1x256 32 [1] iota_S1x256_d1_w32) (Scalar.ofBits .f32 0x4AFFFFFE#32) (ix2 0 l) = ((lo td 8388607 l.val : ℝ) : EReal) := by
  rw [← lo_val (k2_pay5 v21 (ix2 0 l)) l.val l.isLt (pay5_val hv l)]
  unfold k2_pay9
  pointwise
  rw [show (255#32 : BitVec 32) = BitVec.ofNat 32 255 from rfl, show (0#32 : BitVec 32) = BitVec.ofNat 32 0 from rfl,
    cmpi_eq (by have := l.isLt; omega) (by omega), cmpi_eq (by have := l.isLt; omega) (by omega), ofBits_far, ofBits_8388608, ofBits_8388607,
    ← EReal.coe_zero]
  unfold Scalar.select
  rw [pick, pick]

theorem pay15_val (hv : ∀ l : Fin 256, v109 (ix2 l 0) = ((td l.val : ℝ) : EReal)) (l : Fin 256) :
    k2_pay15 (F := Ideal) v109 (ix2 l 0) = ((lo td 8388607 l.val : ℝ) : EReal) := by
  rw [← lo_val _ l.val l.isLt rfl]
  unfold k2_pay15
  pointwise
  rw [show (∑ x : Fin 256, FloatOps.sitofp (F := Ideal) FTy.f32
      (BitVec.setWidth 32 (IntOp.cmpi CmpIPredicate.sle (BitVec.ofNat 32 x.val) (BitVec.ofNat 32 l.val))) * v109 (ix2 x 0))
      = ((tc td l.val : ℝ) : EReal) from by
    rw [Finset.sum_congr rfl fun x _ => mul_comm _ _, sum_mul _ _ (fun x => td x.val) (fun x => bit (x.val ≤ l.val)) (fun x => by
      rw [cmpi_sle (by have := x.isLt; omega) (by have := l.isLt; omega), mask_decide]) (fun x => Or.inl (hv x)),
      sum_bit_le td l.val l.isLt]
    rfl]
  rw [show (255#32 : BitVec 32) = BitVec.ofNat 32 255 from rfl, show (0#32 : BitVec 32) = BitVec.ofNat 32 0 from rfl,
    cmpi_eq (by have := l.isLt; omega) (by omega), cmpi_eq (by have := l.isLt; omega) (by omega), ofBits_far, ofBits_8388608, ofBits_8388607,
    ← EReal.coe_zero]
  unfold Scalar.select
  rw [pick, pick]

/-! ## The segments' columns -/

/-- The numbers of the columns. -/
def cols : IVec S1x256 32 := iota .tc S1x256 32 [1] iota_S1x256_d1_w32

/-- The level of rank `8388607`. -/
def top1 : Ideal .f32 := Scalar.ofBits .f32 0x4AFFFFFE#32

theorem inv_nm1 : (Named.named (F := Ideal) κ "inv_nm1" (φ := .f32) 0x34000001#32) = ((1 / ((8388607 : ℕ) : ℝ) : ℝ) : EReal) := by
  show (((8388607 : ℝ)⁻¹ : ℝ) : EReal) = _
  norm_num

theorem inv_255 : (Named.named (F := Ideal) κ "inv255" (φ := .f32) 0x3B808081#32) = ((1 / 255 : ℝ) : EReal) := by
  show (((255 : ℝ)⁻¹ : ℝ) : EReal) = _
  norm_num

theorem inv_nm1_255 : (Named.named (F := Ideal) κ "inv_nm1_255" (φ := .f32) 0x30008082#32) = ((1 / (((8388607 : ℕ) : ℝ) * 255) : ℝ) : EReal) := by
  show (((2139094785 : ℝ)⁻¹ : ℝ) : EReal) = _
  norm_num

section
variable (hv : ∀ l : Fin 256, v21 (ix2 0 l) = ((td l.val : ℝ) : EReal)) (hnn : ∀ k, k < 255 → 0 ≤ td (k + 1))
include hv

theorem lo_col (l : Fin 256) : k2_pay9 (F := Ideal) (k2_pay5 v21) cols top1 (ix2 0 l) = ((lo td 8388607 l.val : ℝ) : EReal) := pay9_val hv l

include hnn

theorem pay10_val (l : Fin 256) (hl : l.val < 255) :
    k2_pay10 (F := Ideal) (k2_pay5 v21) cols (k2_pay8 v21) top1 (ix2 0 l) = ((qs td eps 8388607 l.val : ℝ) : EReal) := by
  unfold k2_pay10
  pointwise
  rw [lo_col hv, pay8_val hv hnn l hl, pay5_val hv, inv_nm1, inv_255, show cols (ix2 0 l) = BitVec.ofNat 32 l.val from by unfold cols; pointwise,
    sitofp_ofNat (by have := l.isLt; omega)]
  simp only [← EReal.coe_mul, ← EReal.coe_sub, ← EReal.coe_add]
  rfl

theorem pay11_val (l : Fin 256) (hl : l.val < 255) :
    k2_pay11 (F := Ideal) (k2_pay8 v21) (ix2 0 l) = ((step td eps 8388607 l.val : ℝ) : EReal) := by
  unfold k2_pay11
  pointwise
  rw [pay8_val hv hnn l hl, inv_nm1_255, ← EReal.coe_mul]
  rfl

theorem pay12_val (l : Fin 256) (hl : l.val < 254) :
    k2_pay12 (F := Ideal) (k2_pay5 v21) (k2_pay6 (F := Ideal)) cols (k2_pay7 (F := Ideal)) (k2_pay8 v21) top1 (ix2 0 l) = ((seg td eps 8388607 l.val : ℝ) : EReal) := by
  unfold k2_pay12
  pointwise
  rw [sum_mul _ _ (fun x => (lo td 8388607 x.val : ℝ)) (fun x => bit (x.val = l.val + 1)) (fun x => pay6_val x l) (fun x => Or.inl (lo_col hv x)),
    sum_bit_eq (fun x => (lo td 8388607 x : ℝ)) (l.val + 1) (by omega), show cols (ix2 0 l) = BitVec.ofNat 32 l.val from by unfold cols; pointwise,
    show (254#32 : BitVec 32) = BitVec.ofNat 32 254 from rfl, cmpi_eq (by omega) (by omega)]
  unfold Scalar.select
  rw [pick, if_neg (show ¬ l.val = 254 by omega), pay10_val hv hnn l (by omega), pay11_val hv hnn l (by omega), pay7_val, lo_col hv, ofBits_half,
    bit, if_pos (show l.val < 255 by omega), ← EReal.coe_zero, ← EReal.coe_one]
  simp only [← EReal.coe_mul, ← EReal.coe_sub, ← EReal.coe_add, max_coe]
  rw [mul_one]
  rfl

/-! ## The table's columns: each row's steps -/

omit hv hnn in
theorem steps_val (X : Fin 256 → EReal) (T : ℕ → ℝ) (hX : ∀ i : Fin 256, i.val < 255 → X i = ((T i.val : ℝ) : EReal)) (j : Fin 256) (hj : j.val < 255) :
    ∑ i : Fin 256, X i * (((bit (i.val = j.val) : ℝ) : EReal) - ((bit (i.val + 1 = j.val) : ℝ) : EReal)) = ((T j.val - (if j.val = 0 then 0 else T (j.val - 1)) : ℝ) : EReal) := by
  rw [sum_mul X _ (fun i => T i.val) (fun i => bit (i.val = j.val) - bit (i.val + 1 = j.val)) (fun i => (EReal.coe_sub _ _).symm)]
  · congr 1
    simp only [mul_sub]
    rw [Finset.sum_sub_distrib, sum_bit_eq T j.val j.isLt]
    congr 1
    by_cases h : j.val = 0
    · rw [if_pos h]
      exact Finset.sum_eq_zero fun i _ => by rw [bit, if_neg (by omega), mul_zero]
    · rw [if_neg h, ← sum_bit_eq (n := 256) T (j.val - 1) (by omega)]
      refine Finset.sum_congr rfl fun i _ => ?_
      have : (i.val + 1 = j.val) ↔ (i.val = j.val - 1) := by omega
      simp only [bit, this]
  · intro i
    by_cases h : i.val < 255
    · exact Or.inl (hX i h)
    · refine Or.inr ?_
      simp only [bit]
      rw [if_neg (by omega), if_neg (by omega), sub_zero]

/-- The rows of the table before their steps are taken. -/
def tops (r : Fin 4) : ℕ → ℝ := ![pre td eps 8388607, qs td eps 8388607, step td eps 8388607, fun k => (lo td 8388607 k : ℝ)] r

theorem table_val (r : Fin 4) (j : Fin 256) (hj : j.val < 255) :
    table v21 (ix2 r j) = ((tops (td := td) r j.val - (if j.val = 0 then 0 else tops (td := td) r (j.val - 1)) : ℝ) : EReal) := by
  have hc : table v21 = k2_pay14 (F := Ideal) (k2_pay9 (k2_pay5 v21) cols top1) (k2_pay10 (k2_pay5 v21) cols (k2_pay8 v21) top1) (k2_pay11 (k2_pay8 v21))
    (k2_pay12 (k2_pay5 v21) (k2_pay6 (F := Ideal)) cols (k2_pay7 (F := Ideal)) (k2_pay8 v21) top1) k2_pay13 := rfl
  rw [hc]
  unfold k2_pay14
  have h13 : ∀ i j : Fin 256, k2_pay13 (ix2 i j) = BitVec.ofBool (decide (i.val < j.val)) := fun i j => by
    unfold k2_pay13
    pointwise
    rw [cmpi_slt (by have := i.isLt; omega) (by have := j.isLt; omega)]
  have hd : ∀ i : Fin 256, FloatOps.sitofp (F := Ideal) FTy.f32 (BitVec.setWidth 32 (IntOp.cmpi CmpIPredicate.eq (BitVec.ofNat 32 i.val) (BitVec.ofNat 32 j.val))) = ((bit (i.val = j.val) : ℝ) : EReal) := fun i => by
    rw [cmpi_eq (by have := i.isLt; omega) (by omega), mask_decide]
  have hd1 : ∀ i : Fin 256, FloatOps.sitofp (F := Ideal) FTy.f32 (BitVec.setWidth 32 (IntOp.cmpi CmpIPredicate.eq (IntOp.addi (BitVec.ofNat 32 i.val) 1#32) (BitVec.ofNat 32 j.val))) = ((bit (i.val + 1 = j.val) : ℝ) : EReal) := fun i => by
    rw [add_one, cmpi_eq (by have := i.isLt; omega) (by omega), mask_decide]
  fin_cases r
  · pointwise
    simp only [hd, hd1]
    refine steps_val _ _ (fun i hi => ?_) j hj
    rw [sum_mul _ _ (fun x => seg td eps 8388607 x.val) (fun x => bit (x.val < i.val)) (fun x => by rw [h13, mask_decide]) (fun x => by
      by_cases h : x.val < i.val
      · exact Or.inl (pay12_val hv hnn x (by omega))
      · exact Or.inr (by rw [bit, if_neg h])), sum_bit_lt (seg td eps 8388607) i.val (by omega)]
    rfl
  · pointwise
    simp only [hd, hd1]
    exact steps_val _ _ (fun i hi => pay10_val hv hnn i hi) j hj
  · pointwise
    simp only [hd, hd1]
    exact steps_val _ _ (fun i hi => pay11_val hv hnn i hi) j hj
  · pointwise
    simp only [hd, hd1]
    exact steps_val _ _ (fun i hi => lo_col hv i) j hj

omit hv in
theorem at_val (X Y : Fin 256 → EReal) (T : ℕ → ℝ) (n : ℕ) (hn : n < 1073741824)
    (hX : ∀ i : Fin 256, i.val < 255 → X i = ((T i.val - (if i.val = 0 then 0 else T (i.val - 1)) : ℝ) : EReal))
    (hY : ∀ i : Fin 256, Y i = ((bit ((lo td 8388607 i.val : ℝ) ≤ (n : ℝ)) : ℝ) : EReal)) :
    ∑ i : Fin 256, X i * Y i = ((T (top td 8388607 n) : ℝ) : EReal) := by
  have ht := top_le (td := td) (M := 8388607) n
  have hb : ∀ i : Fin 256, bit ((lo td 8388607 i.val : ℝ) ≤ (n : ℝ)) = if i.val ≤ top td 8388607 n then 1 else 0 := fun i => by
    by_cases h : i.val < 255
    · have := le_top hnn i.val n (M := 8388607) (by omega)
      simp only [bit, Nat.cast_le, this]
    · have h5 : i.val = 255 := by have := i.isLt; omega
      have hl : lo td 8388607 255 = 2 ^ 30 := by simp [lo]
      rw [bit, h5, hl, if_neg, if_neg (by omega)]
      rw [Nat.cast_le]
      omega
  rw [sum_mul X Y (fun i => T i.val - (if i.val = 0 then 0 else T (i.val - 1))) (fun i => if i.val ≤ top td 8388607 n then 1 else 0)
    (fun i => by rw [hY, hb]) (fun i => by
      by_cases h : i.val < 255
      · exact Or.inl (hX i h)
      · exact Or.inr (if_neg (by omega)))]
  congr 1
  rw [Fin.sum_univ_eq_sum_range (fun i => (T i - (if i = 0 then 0 else T (i - 1))) * (if i ≤ top td 8388607 n then 1 else 0)) 256]
  exact sum_steps T (top td 8388607 n) 256 (by omega)

theorem point_val (hw : ∀ l : Fin 256, v109 (ix2 l 0) = ((td l.val : ℝ) : EReal)) (m : FVec Ideal S1x128 .f32) (l : Fin 128) (n : ℕ) (hn : n < 1073741824)
    (hm : m (ix2 0 l) = ((n : ℝ) : EReal)) :
    point (table v21) (k2_pay15 v109) m (ix2 0 l) = ((sumAt td eps 8388607 (top td 8388607 n) n : ℝ) : EReal) := by
  have hs : ∀ r : Fin 4, ∑ j : Fin 256, table v21 (ix2 r j) * FloatOps.sitofp (F := Ideal) FTy.f32 (BitVec.setWidth 32 (BitVec.ofBool (decide (k2_pay15 v109 (ix2 j 0) ≤ m (ix2 0 l)))))
      = ((tops (td := td) r (top td 8388607 n) : ℝ) : EReal) := fun r => by
    refine at_val hnn _ _ (tops r) n hn (fun i hi => table_val hv hnn r i hi) fun i => ?_
    rw [pay15_val hw, hm, ← mask_decide]
    simp only [EReal.coe_le_coe_iff]
  unfold point
  pointwise
  rw [hs 0, hs 1, hs 2, hs 3, hm, ofBits_half, ← EReal.coe_one]
  simp only [← EReal.coe_mul, ← EReal.coe_sub, ← EReal.coe_add]
  rfl

end

end Cert.KernelIdeal.Asm

end
-- ==== Proof.Loss.lean ====
/-
  The last stage's result as a real number: each bucket's part of the total, the parts of a row's lanes, the rows' sums and the loss.
-/
module

public import proofs.«01_k».proof.Proof.Tables

@[expose] public section

set_option maxRecDepth 65536

noncomputable section

namespace Cert.KernelIdeal.Asm

open Cert.KernelIdeal Cert.KernelIdeal.Gen
open Idealize.ShloMosaic Idealize.SL.Sem
open Cert.Proof.Read Cert.Proof.Ranks

/-- The midpoint of bucket `i`, the quantile's segment it lies in, and how far along. -/
def mid (i : ℕ) : ℝ := ((i : ℝ) + 1 / 2) * (1 / 8192)
def knot (i : ℕ) : ℕ := 255 * (2 * i + 1) / 16384
def frac (i : ℕ) : ℝ := 255 * mid i - knot i

theorem knot_le (i : ℕ) (hi : i < 8192) : knot i ≤ 254 := by unfold knot; omega

theorem floor_mid (i : ℕ) : ⌊255 * mid i⌋ = (knot i : ℤ) := by
  rw [Int.floor_eq_iff]
  have h1 : knot i * 16384 ≤ 255 * (2 * i + 1) := by unfold knot; omega
  have h2 : 255 * (2 * i + 1) < (knot i + 1) * 16384 := by unfold knot; omega
  have h1' : (knot i : ℝ) * 16384 ≤ 255 * (2 * i + 1) := by exact_mod_cast h1
  have h2' : (255 : ℝ) * (2 * i + 1) < (knot i + 1) * 16384 := by exact_mod_cast h2
  unfold mid
  rw [Int.cast_natCast]
  constructor <;> linarith

theorem frac_pos (i : ℕ) : 0 < frac i := by
  have h1 : knot i * 16384 < 255 * (2 * i + 1) := by unfold knot; omega
  have h1' : (knot i : ℝ) * 16384 < 255 * (2 * i + 1) := by exact_mod_cast h1
  unfold frac mid
  linarith

theorem frac_lt (i : ℕ) : frac i < 1 := by
  have h2 : 255 * (2 * i + 1) < (knot i + 1) * 16384 := by unfold knot; omega
  have h2' : (255 : ℝ) * (2 * i + 1) < (knot i + 1) * 16384 := by exact_mod_cast h2
  unfold frac mid
  linarith

/-- What bucket `i` adds to the total, its ranks beginning at `a` and ending at `e`. -/
def bin (td : ℕ → ℝ) (i a e : ℕ) : ℝ := part td eps 8388607 (mid i) (knot i) (frac i) a e

/-! ## The row's chain in three steps -/

section
variable {F : FTy → Type} [FloatOps F] [Named F]

/-- The midpoints of a row's buckets. -/
def midV (v136 : FVec F S1x128 .f32) (c : F .f32) : FVec F S1x128 .f32 :=
  mulf (addf (addf (broadcast S1x128 c) v136) (broadcast S1x128 (Scalar.ofBits .f32 0x3F000000#32))) (broadcast S1x128 (Scalar.ofBits .f32 0x39000000#32))

/-- The segments that a row's midpoints lie in. -/
def knotV (v : FVec F S1x128 .f32) : IVec S1x128 32 :=
  minsi (broadcast S1x128 254#32) (maxsi (broadcast S1x128 0#32) (fptosi 32 (floor (mulf (broadcast S1x128 (Scalar.ofBits .f32 0x437F0000#32)) v))))

/-- The levels at which the quantile crosses a row's midpoints. -/
def crossV (v28 : FVec F S1x256 .f32) (v133 : IVec S256x128 32) (v : FVec F S1x128 .f32) (k : IVec S1x128 32) : FVec F S1x128 .f32 :=
  have w34 : FVec F S1x128 .f32 := matmul dot_S1x256_S256x128_S1x128_1_0_0_1_n_n (some .fp32) v28
    (sitofp .f32 (extui 32 (cmpi .eq v133 (broadcastTo S256x128 k broadcasts_S1x128_S256x128)) natLt_1_32)) (constant S1x128 .f32 0x00000000#32)
  have w36 : FVec F S1x128 .f32 := matmul dot_S1x256_S256x128_S1x128_1_0_0_1_n_n (some .fp32) v28
    (sitofp .f32 (extui 32 (cmpi .eq v133 (broadcastTo S256x128 (addi k (broadcast S1x128 1#32)) broadcasts_S1x128_S256x128)) natLt_1_32)) (constant S1x128 .f32 0x00000000#32)
  addf w34 (mulf (subf (mulf (broadcast S1x128 (Scalar.ofBits .f32 0x437F0000#32)) v) (sitofp .f32 k))
    (addf (subf w36 w34) (broadcast S1x128 (Scalar.ofBits .f32 0x322BCC77#32))))

/-- The ranks at which a row's buckets are cut. -/
def cutV (u a e : FVec F S1x128 .f32) : FVec F S1x128 .f32 :=
  minimumf e (maximumf a (minimumf (broadcast S1x128 (Scalar.ofBits .f32 0x4B000000#32)) (maximumf (broadcast S1x128 (Scalar.ofBits .f32 0x00000000#32))
    (addf (floor (mulf (broadcast S1x128 (Scalar.ofBits .f32 0x4AFFFFFE#32)) u)) (broadcast S1x128 (Scalar.ofBits .f32 0x3F800000#32))))))

/-- A row's parts from its midpoints and cuts. -/
def partV (v108 : FVec F S4x256 .f32) (v132 : FVec F S256x1 .f32) (v s a e : FVec F S1x128 .f32) : FVec F S1x128 .f32 :=
  subf (addf (addf (mulf v (subf (subf (mulf (broadcast S1x128 (Scalar.ofBits .f32 0x40000000#32)) s) a) e)) (point v108 v132 a)) (point v108 v132 e))
    (mulf (broadcast S1x128 (Scalar.ofBits .f32 0x40000000#32)) (point v108 v132 s))

theorem contrib_eq (v28 : FVec F S1x256 .f32) (v108 : FVec F S4x256 .f32) (v132 : FVec F S256x1 .f32) (v133 : IVec S256x128 32) (v136 : FVec F S1x128 .f32)
    (c : F .f32) (a e : FVec F S1x128 .f32) : contrib v28 v108 v132 v133 v136 c a e
      = partV v108 v132 (midV v136 c) (cutV (crossV v28 v133 (midV v136 c) (knotV (midV v136 c))) a e) a e := rfl

end

theorem midV_val (c : Ideal .f32) (l : Fin 128) (B : ℕ) (hc : c = ((B : ℝ) : EReal)) :
    midV (F := Ideal) k2_pay17 c (ix2 0 l) = ((mid (B + l.val) : ℝ) : EReal) := by
  have h17 : k2_pay17 (F := Ideal) (ix2 0 l) = ((l.val : ℝ) : EReal) := by
    unfold k2_pay17
    pointwise
    rw [sitofp_ofNat (by have := l.isLt; omega)]
  unfold midV
  pointwise
  rw [h17, hc, ofBits_half, ofBits_inv8192]
  simp only [← EReal.coe_mul, ← EReal.coe_add]
  unfold mid
  push_cast
  rfl

theorem fptosi_nat (n : ℕ) (hn : n < 2 ^ 31) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, show (max (-((2 ^ (32 - 1) : ℕ) : ℤ)) (min (((2 ^ (32 - 1) : ℕ) : ℤ) - 1) (n : ℤ))) = (n : ℤ) by
    norm_num at hn ⊢; omega]
  exact BitVec.ofInt_natCast 32 n

theorem clamp_nat (n : ℕ) (hn : n ≤ 254) : IntOp.minsi 254#32 (IntOp.maxsi 0#32 (BitVec.ofNat 32 n)) = BitVec.ofNat 32 n := by
  have h : ∀ n : Fin 255, IntOp.minsi 254#32 (IntOp.maxsi 0#32 (BitVec.ofNat 32 n.val)) = BitVec.ofNat 32 n.val := by decide
  exact h ⟨n, by omega⟩

theorem knotV_val (v : FVec Ideal S1x128 .f32) (l : Fin 128) (i : ℕ) (hi : i < 8192) (hv : v (ix2 0 l) = ((mid i : ℝ) : EReal)) :
    knotV v (ix2 0 l) = BitVec.ofNat 32 (knot i) := by
  unfold knotV
  pointwise
  rw [ofBits_255, hv, ← EReal.coe_mul]
  show IntOp.minsi 254#32 (IntOp.maxsi 0#32 (Ideal.fptosi 32 (((⌊255 * mid i⌋ : ℝ)) : EReal))) = _
  rw [floor_mid, Int.cast_natCast, fptosi_nat _ (by have := knot_le i hi; omega), clamp_nat _ (knot_le i hi)]

theorem cutV_val (u a e : FVec Ideal S1x128 .f32) (l : Fin 128) (x : ℝ) (na ne : ℕ) (hu : u (ix2 0 l) = ((x : ℝ) : EReal))
    (ha : a (ix2 0 l) = ((na : ℝ) : EReal)) (he : e (ix2 0 l) = ((ne : ℝ) : EReal)) :
    cutV u a e (ix2 0 l) = ((split 8388607 x na ne : ℝ) : EReal) := by
  unfold cutV
  pointwise
  rw [ofBits_8388608, ofBits_8388607, hu, ha, he, ← EReal.coe_mul]
  show min _ (max _ (min _ (max _ (((⌊8388607 * x⌋ : ℝ) : EReal) + 1)))) = _
  rw [← EReal.coe_zero, ← EReal.coe_one, ← EReal.coe_add, max_coe, min_coe, max_coe, min_coe]
  congr 1
  have e : ((split 8388607 x na ne : ℕ) : ℤ) = min (ne : ℤ) (max (na : ℤ) (min 8388608 (max 0 (⌊8388607 * x⌋ + 1)))) := by
    unfold split
    rw [Int.toNat_of_nonneg (by omega)]
    norm_num
  have := congrArg (fun z : ℤ => (z : ℝ)) e
  push_cast at this
  exact this.symm

theorem crossV_val {td : ℕ → ℝ} {v21 : Vec Ideal S1x256 .f32} (hv : ∀ l : Fin 256, v21 (ix2 0 l) = ((td l.val : ℝ) : EReal)) (v : FVec Ideal S1x128 .f32) (k : IVec S1x128 32) (l : Fin 128) (i : ℕ) (hi : i < 8192)
    (hm : v (ix2 0 l) = ((mid i : ℝ) : EReal)) (hk : k (ix2 0 l) = BitVec.ofNat 32 (knot i)) :
    crossV (F := Ideal) (k2_pay5 v21) (iota .tc S256x128 32 [0] iota_S256x128_d0_w32) v k (ix2 0 l) = ((cross td eps (knot i) (frac i) : ℝ) : EReal) := by
  have h := knot_le i hi
  unfold crossV
  pointwise
  have s0 : ∑ x : Fin 256, k2_pay5 v21 (ix2 0 x) * FloatOps.sitofp (F := Ideal) FTy.f32 (BitVec.setWidth 32 (IntOp.cmpi CmpIPredicate.eq (BitVec.ofNat 32 x.val) (BitVec.ofNat 32 (knot i))))
      = ((tc td (knot i) : ℝ) : EReal) := by
    rw [sum_mul _ _ (fun x => tc td x.val) (fun x => bit (x.val = knot i)) (fun x => by
      rw [cmpi_eq (by have := x.isLt; omega) (by omega), mask_decide]) (fun x => Or.inl (pay5_val hv x)), sum_bit_eq (tc td) (knot i) (by omega)]
  have s1 : ∑ x : Fin 256, k2_pay5 v21 (ix2 0 x) * FloatOps.sitofp (F := Ideal) FTy.f32 (BitVec.setWidth 32 (IntOp.cmpi CmpIPredicate.eq (BitVec.ofNat 32 x.val) (BitVec.ofNat 32 (knot i + 1))))
      = ((tc td (knot i + 1) : ℝ) : EReal) := by
    rw [sum_mul _ _ (fun x => tc td x.val) (fun x => bit (x.val = knot i + 1)) (fun x => by
      rw [cmpi_eq (by have := x.isLt; omega) (by omega), mask_decide]) (fun x => Or.inl (pay5_val hv x)), sum_bit_eq (tc td) (knot i + 1) (by omega)]
  rw [hk, add_one, s0, s1, hm, ofBits_255, ofBits_eps, sitofp_ofNat (by omega)]
  simp only [← EReal.coe_mul, ← EReal.coe_sub, ← EReal.coe_add]
  rfl

/-! ## The rows' first bucket numbers -/

theorem first_0 : Ideal.ofBits .f32 0x00000000#32 = ((128 * (0 : Fin 64).val : ℕ) : ℝ) := by
  simp [Ideal.ofBits, Ideal.ieee]
theorem first_1 : Ideal.ofBits .f32 0x43000000#32 = ((128 * (1 : Fin 64).val : ℕ) : ℝ) := by
  first | (simp [Ideal.ofBits, Ideal.ieee]; done) | (simp [Ideal.ofBits, Ideal.ieee]; rw [← EReal.coe_mul]; norm_num)
theorem first_2 : Ideal.ofBits .f32 0x43800000#32 = ((128 * (2 : Fin 64).val : ℕ) : ℝ) := by
  first | (simp [Ideal.ofBits, Ideal.ieee]; done) | (simp [Ideal.ofBits, Ideal.ieee]; rw [← EReal.coe_mul]; norm_num)
theorem first_3 : Ideal.ofBits .f32 0x43C00000#32 = ((128 * (3 : Fin 64).val : ℕ) : ℝ) := by
  first | (simp [Ideal.ofBits, Ideal.ieee]; done) | (simp [Ideal.ofBits, Ideal.ieee]; rw [← EReal.coe_mul]; norm_num)
theorem first_4 : Ideal.ofBits .f32 0x44000000#32 = ((128 * (4 : Fin 64).val : ℕ) : ℝ) := by
  first | (simp [Ideal.ofBits, Ideal.ieee]; done) | (simp [Ideal.ofBits, Ideal.ieee]; rw [← EReal.coe_mul]; norm_num)
theorem first_5 : Ideal.ofBits .f32 0x44200000#32 = ((128 * (5 : Fin 64).val : ℕ) : ℝ) := by
  first | (simp [Ideal.ofBits, Ideal.ieee]; done) | (simp [Ideal.ofBits, Ideal.ieee]; rw [← EReal.coe_mul]; norm_num)
theorem first_6 : Ideal.ofBits .f32 0x44400000#32 = ((128 * (6 : Fin 64).val : ℕ) : ℝ) := by
  first | (simp [Ideal.ofBits, Ideal.ieee]; done) | (simp [Ideal.ofBits, Ideal.ieee]; rw [← EReal.coe_mul]; norm_num)
theorem first_7 : Ideal.ofBits .f32 0x44600000#32 = ((128 * (7 : Fin 64).val : ℕ) : ℝ) := by
  first | (simp [Ideal.ofBits, Ideal.ieee]; done) | (simp [Ideal.ofBits, Ideal.ieee]; rw [← EReal.coe_mul]; norm_num)
theorem first_8 : Ideal.ofBits .f32 0x44800000#32 = ((128 * (8 : Fin 64).val : ℕ) : ℝ) := by
  first | (simp [Ideal.ofBits, Ideal.ieee]; done) | (simp [Ideal.ofBits, Ideal.ieee]; rw [← EReal.coe_mul]; norm_num)
theorem first_9 : Ideal.ofBits .f32 0x44900000#32 = ((128 * (9 : Fin 64).val : ℕ) : ℝ) := by
  first | (simp [Ideal.ofBits, Ideal.ieee]; done) | (simp [Ideal.ofBits, Ideal.ieee]; rw [← EReal.coe_mul]; norm_num)
theorem first_10 : Ideal.ofBits .f32 0x44A00000#32 = ((128 * (10 : Fin 64).val : ℕ) : ℝ) := by
  first | (simp [Ideal.ofBits, Ideal.ieee]; done) | (simp [Ideal.ofBits, Ideal.ieee]; rw [← EReal.coe_mul]; norm_num)
theorem first_11 : Ideal.ofBits .f32 0x44B00000#32 = ((128 * (11 : Fin 64).val : ℕ) : ℝ) := by
  first | (simp [Ideal.ofBits, Ideal.ieee]; done) | (simp [Ideal.ofBits, Ideal.ieee]; rw [← EReal.coe_mul]; norm_num)
theorem first_12 : Ideal.ofBits .f32 0x44C00000#32 = ((128 * (12 : Fin 64).val : ℕ) : ℝ) := by
  first | (simp [Ideal.ofBits, Ideal.ieee]; done) | (simp [Ideal.ofBits, Ideal.ieee]; rw [← EReal.coe_mul]; norm_num)
theorem first_13 : Ideal.ofBits .f32 0x44D00000#32 = ((128 * (13 : Fin 64).val : ℕ) : ℝ) := by
  first | (simp [Ideal.ofBits, Ideal.ieee]; done) | (simp [Ideal.ofBits, Ideal.ieee]; rw [← EReal.coe_mul]; norm_num)
theorem first_14 : Ideal.ofBits .f32 0x44E00000#32 = ((128 * (14 : Fin 64).val : ℕ) : ℝ) := by
  first | (simp [Ideal.ofBits, Ideal.ieee]; done) | (simp [Ideal.ofBits, Ideal.ieee]; rw [← EReal.coe_mul]; norm_num)
theorem first_15 : Ideal.ofBits .f32 0x44F00000#32 = ((128 * (15 : Fin 64).val : ℕ) : ℝ) := by
  first | (simp [Ideal.ofBits, Ideal.ieee]; done) | (simp [Ideal.ofBits, Ideal.ieee]; rw [← EReal.coe_mul]; norm_num)
theorem first_16 : Ideal.ofBits .f32 0x45000000#32 = ((128 * (16 : Fin 64).val : ℕ) : ℝ) := by
  first | (simp [Ideal.ofBits, Ideal.ieee]; done) | (simp [Ideal.ofBits, Ideal.ieee]; rw [← EReal.coe_mul]; norm_num)
theorem first_17 : Ideal.ofBits .f32 0x45080000#32 = ((128 * (17 : Fin 64).val : ℕ) : ℝ) := by
  first | (simp [Ideal.ofBits, Ideal.ieee]; done) | (simp [Ideal.ofBits, Ideal.ieee]; rw [← EReal.coe_mul]; norm_num)
theorem first_18 : Ideal.ofBits .f32 0x45100000#32 = ((128 * (18 : Fin 64).val : ℕ) : ℝ) := by
  first | (simp [Ideal.ofBits, Ideal.ieee]; done) | (simp [Ideal.ofBits, Ideal.ieee]; rw [← EReal.coe_mul]; norm_num)
theorem first_19 : Ideal.ofBits .f32 0x45180000#32 = ((128 * (19 : Fin 64).val : ℕ) : ℝ) := by
  first | (simp [Ideal.ofBits, Ideal.ieee]; done) | (simp [Ideal.ofBits, Ideal.ieee]; rw [← EReal.coe_mul]; norm_num)
theorem first_20 : Ideal.ofBits .f32 0x45200000#32 = ((128 * (20 : Fin 64).val : ℕ) : ℝ) := by
  first | (simp [Ideal.ofBits, Ideal.ieee]; done) | (simp [Ideal.ofBits, Ideal.ieee]; rw [← EReal.coe_mul]; norm_num)
theorem first_21 : Ideal.ofBits .f32 0x45280000#32 = ((128 * (21 : Fin 64).val : ℕ) : ℝ) := by
  first | (simp [Ideal.ofBits, Ideal.ieee]; done) | (simp [Ideal.ofBits, Ideal.ieee]; rw [← EReal.coe_mul]; norm_num)
theorem first_22 : Ideal.ofBits .f32 0x45300000#32 = ((128 * (22 : Fin 64).val : ℕ) : ℝ) := by
  first | (simp [Ideal.ofBits, Ideal.ieee]; done) | (simp [Ideal.ofBits, Ideal.ieee]; rw [← EReal.coe_mul]; norm_num)
theorem first_23 : Ideal.ofBits .f32 0x45380000#32 = ((128 * (23 : Fin 64).val : ℕ) : ℝ) := by
  first | (simp [Ideal.ofBits, Ideal.ieee]; done) | (simp [Ideal.ofBits, Ideal.ieee]; rw [← EReal.coe_mul]; norm_num)
theorem first_24 : Ideal.ofBits .f32 0x45400000#32 = ((128 * (24 : Fin 64).val : ℕ) : ℝ) := by
  first | (simp [Ideal.ofBits, Ideal.ieee]; done) | (simp [Ideal.ofBits, Ideal.ieee]; rw [← EReal.coe_mul]; norm_num)
theorem first_25 : Ideal.ofBits .f32 0x45480000#32 = ((128 * (25 : Fin 64).val : ℕ) : ℝ) := by
  first | (simp [Ideal.ofBits, Ideal.ieee]; done) | (simp [Ideal.ofBits, Ideal.ieee]; rw [← EReal.coe_mul]; norm_num)
theorem first_26 : Ideal.ofBits .f32 0x45500000#32 = ((128 * (26 : Fin 64).val : ℕ) : ℝ) := by
  first | (simp [Ideal.ofBits, Ideal.ieee]; done) | (simp [Ideal.ofBits, Ideal.ieee]; rw [← EReal.coe_mul]; norm_num)
theorem first_27 : Ideal.ofBits .f32 0x45580000#32 = ((128 * (27 : Fin 64).val : ℕ) : ℝ) := by
  first | (simp [Ideal.ofBits, Ideal.ieee]; done) | (simp [Ideal.ofBits, Ideal.ieee]; rw [← EReal.coe_mul]; norm_num)
theorem first_28 : Ideal.ofBits .f32 0x45600000#32 = ((128 * (28 : Fin 64).val : ℕ) : ℝ) := by
  first | (simp [Ideal.ofBits, Ideal.ieee]; done) | (simp [Ideal.ofBits, Ideal.ieee]; rw [← EReal.coe_mul]; norm_num)
theorem first_29 : Ideal.ofBits .f32 0x45680000#32 = ((128 * (29 : Fin 64).val : ℕ) : ℝ) := by
  first | (simp [Ideal.ofBits, Ideal.ieee]; done) | (simp [Ideal.ofBits, Ideal.ieee]; rw [← EReal.coe_mul]; norm_num)
theorem first_30 : Ideal.ofBits .f32 0x45700000#32 = ((128 * (30 : Fin 64).val : ℕ) : ℝ) := by
  first | (simp [Ideal.ofBits, Ideal.ieee]; done) | (simp [Ideal.ofBits, Ideal.ieee]; rw [← EReal.coe_mul]; norm_num)
theorem first_31 : Ideal.ofBits .f32 0x45780000#32 = ((128 * (31 : Fin 64).val : ℕ) : ℝ) := by
  first | (simp [Ideal.ofBits, Ideal.ieee]; done) | (simp [Ideal.ofBits, Ideal.ieee]; rw [← EReal.coe_mul]; norm_num)
theorem first_32 : Ideal.ofBits .f32 0x45800000#32 = ((128 * (32 : Fin 64).val : ℕ) : ℝ) := by
  first | (simp [Ideal.ofBits, Ideal.ieee]; done) | (simp [Ideal.ofBits, Ideal.ieee]; rw [← EReal.coe_mul]; norm_num)
theorem first_33 : Ideal.ofBits .f32 0x45840000#32 = ((128 * (33 : Fin 64).val : ℕ) : ℝ) := by
  first | (simp [Ideal.ofBits, Ideal.ieee]; done) | (simp [Ideal.ofBits, Ideal.ieee]; rw [← EReal.coe_mul]; norm_num)
theorem first_34 : Ideal.ofBits .f32 0x45880000#32 = ((128 * (34 : Fin 64).val : ℕ) : ℝ) := by
  first | (simp [Ideal.ofBits, Ideal.ieee]; done) | (simp [Ideal.ofBits, Ideal.ieee]; rw [← EReal.coe_mul]; norm_num)
theorem first_35 : Ideal.ofBits .f32 0x458C0000#32 = ((128 * (35 : Fin 64).val : ℕ) : ℝ) := by
  first | (simp [Ideal.ofBits, Ideal.ieee]; done) | (simp [Ideal.ofBits, Ideal.ieee]; rw [← EReal.coe_mul]; norm_num)
theorem first_36 : Ideal.ofBits .f32 0x45900000#32 = ((128 * (36 : Fin 64).val : ℕ) : ℝ) := by
  first | (simp [Ideal.ofBits, Ideal.ieee]; done) | (simp [Ideal.ofBits, Ideal.ieee]; rw [← EReal.coe_mul]; norm_num)
theorem first_37 : Ideal.ofBits .f32 0x45940000#32 = ((128 * (37 : Fin 64).val : ℕ) : ℝ) := by
  first | (simp [Ideal.ofBits, Ideal.ieee]; done) | (simp [Ideal.ofBits, Ideal.ieee]; rw [← EReal.coe_mul]; norm_num)
theorem first_38 : Ideal.ofBits .f32 0x45980000#32 = ((128 * (38 : Fin 64).val : ℕ) : ℝ) := by
  first | (simp [Ideal.ofBits, Ideal.ieee]; done) | (simp [Ideal.ofBits, Ideal.ieee]; rw [← EReal.coe_mul]; norm_num)
theorem first_39 : Ideal.ofBits .f32 0x459C0000#32 = ((128 * (39 : Fin 64).val : ℕ) : ℝ) := by
  first | (simp [Ideal.ofBits, Ideal.ieee]; done) | (simp [Ideal.ofBits, Ideal.ieee]; rw [← EReal.coe_mul]; norm_num)
theorem first_40 : Ideal.ofBits .f32 0x45A00000#32 = ((128 * (40 : Fin 64).val : ℕ) : ℝ) := by
  first | (simp [Ideal.ofBits, Ideal.ieee]; done) | (simp [Ideal.ofBits, Ideal.ieee]; rw [← EReal.coe_mul]; norm_num)
theorem first_41 : Ideal.ofBits .f32 0x45A40000#32 = ((128 * (41 : Fin 64).val : ℕ) : ℝ) := by
  first | (simp [Ideal.ofBits, Ideal.ieee]; done) | (simp [Ideal.ofBits, Ideal.ieee]; rw [← EReal.coe_mul]; norm_num)
theorem first_42 : Ideal.ofBits .f32 0x45A80000#32 = ((128 * (42 : Fin 64).val : ℕ) : ℝ) := by
  first | (simp [Ideal.ofBits, Ideal.ieee]; done) | (simp [Ideal.ofBits, Ideal.ieee]; rw [← EReal.coe_mul]; norm_num)
theorem first_43 : Ideal.ofBits .f32 0x45AC0000#32 = ((128 * (43 : Fin 64).val : ℕ) : ℝ) := by
  first | (simp [Ideal.ofBits, Ideal.ieee]; done) | (simp [Ideal.ofBits, Ideal.ieee]; rw [← EReal.coe_mul]; norm_num)
theorem first_44 : Ideal.ofBits .f32 0x45B00000#32 = ((128 * (44 : Fin 64).val : ℕ) : ℝ) := by
  first | (simp [Ideal.ofBits, Ideal.ieee]; done) | (simp [Ideal.ofBits, Ideal.ieee]; rw [← EReal.coe_mul]; norm_num)
theorem first_45 : Ideal.ofBits .f32 0x45B40000#32 = ((128 * (45 : Fin 64).val : ℕ) : ℝ) := by
  first | (simp [Ideal.ofBits, Ideal.ieee]; done) | (simp [Ideal.ofBits, Ideal.ieee]; rw [← EReal.coe_mul]; norm_num)
theorem first_46 : Ideal.ofBits .f32 0x45B80000#32 = ((128 * (46 : Fin 64).val : ℕ) : ℝ) := by
  first | (simp [Ideal.ofBits, Ideal.ieee]; done) | (simp [Ideal.ofBits, Ideal.ieee]; rw [← EReal.coe_mul]; norm_num)
theorem first_47 : Ideal.ofBits .f32 0x45BC0000#32 = ((128 * (47 : Fin 64).val : ℕ) : ℝ) := by
  first | (simp [Ideal.ofBits, Ideal.ieee]; done) | (simp [Ideal.ofBits, Ideal.ieee]; rw [← EReal.coe_mul]; norm_num)
theorem first_48 : Ideal.ofBits .f32 0x45C00000#32 = ((128 * (48 : Fin 64).val : ℕ) : ℝ) := by
  first | (simp [Ideal.ofBits, Ideal.ieee]; done) | (simp [Ideal.ofBits, Ideal.ieee]; rw [← EReal.coe_mul]; norm_num)
theorem first_49 : Ideal.ofBits .f32 0x45C40000#32 = ((128 * (49 : Fin 64).val : ℕ) : ℝ) := by
  first | (simp [Ideal.ofBits, Ideal.ieee]; done) | (simp [Ideal.ofBits, Ideal.ieee]; rw [← EReal.coe_mul]; norm_num)
theorem first_50 : Ideal.ofBits .f32 0x45C80000#32 = ((128 * (50 : Fin 64).val : ℕ) : ℝ) := by
  first | (simp [Ideal.ofBits, Ideal.ieee]; done) | (simp [Ideal.ofBits, Ideal.ieee]; rw [← EReal.coe_mul]; norm_num)
theorem first_51 : Ideal.ofBits .f32 0x45CC0000#32 = ((128 * (51 : Fin 64).val : ℕ) : ℝ) := by
  first | (simp [Ideal.ofBits, Ideal.ieee]; done) | (simp [Ideal.ofBits, Ideal.ieee]; rw [← EReal.coe_mul]; norm_num)
theorem first_52 : Ideal.ofBits .f32 0x45D00000#32 = ((128 * (52 : Fin 64).val : ℕ) : ℝ) := by
  first | (simp [Ideal.ofBits, Ideal.ieee]; done) | (simp [Ideal.ofBits, Ideal.ieee]; rw [← EReal.coe_mul]; norm_num)
theorem first_53 : Ideal.ofBits .f32 0x45D40000#32 = ((128 * (53 : Fin 64).val : ℕ) : ℝ) := by
  first | (simp [Ideal.ofBits, Ideal.ieee]; done) | (simp [Ideal.ofBits, Ideal.ieee]; rw [← EReal.coe_mul]; norm_num)
theorem first_54 : Ideal.ofBits .f32 0x45D80000#32 = ((128 * (54 : Fin 64).val : ℕ) : ℝ) := by
  first | (simp [Ideal.ofBits, Ideal.ieee]; done) | (simp [Ideal.ofBits, Ideal.ieee]; rw [← EReal.coe_mul]; norm_num)
theorem first_55 : Ideal.ofBits .f32 0x45DC0000#32 = ((128 * (55 : Fin 64).val : ℕ) : ℝ) := by
  first | (simp [Ideal.ofBits, Ideal.ieee]; done) | (simp [Ideal.ofBits, Ideal.ieee]; rw [← EReal.coe_mul]; norm_num)
theorem first_56 : Ideal.ofBits .f32 0x45E00000#32 = ((128 * (56 : Fin 64).val : ℕ) : ℝ) := by
  first | (simp [Ideal.ofBits, Ideal.ieee]; done) | (simp [Ideal.ofBits, Ideal.ieee]; rw [← EReal.coe_mul]; norm_num)
theorem first_57 : Ideal.ofBits .f32 0x45E40000#32 = ((128 * (57 : Fin 64).val : ℕ) : ℝ) := by
  first | (simp [Ideal.ofBits, Ideal.ieee]; done) | (simp [Ideal.ofBits, Ideal.ieee]; rw [← EReal.coe_mul]; norm_num)
theorem first_58 : Ideal.ofBits .f32 0x45E80000#32 = ((128 * (58 : Fin 64).val : ℕ) : ℝ) := by
  first | (simp [Ideal.ofBits, Ideal.ieee]; done) | (simp [Ideal.ofBits, Ideal.ieee]; rw [← EReal.coe_mul]; norm_num)
theorem first_59 : Ideal.ofBits .f32 0x45EC0000#32 = ((128 * (59 : Fin 64).val : ℕ) : ℝ) := by
  first | (simp [Ideal.ofBits, Ideal.ieee]; done) | (simp [Ideal.ofBits, Ideal.ieee]; rw [← EReal.coe_mul]; norm_num)
theorem first_60 : Ideal.ofBits .f32 0x45F00000#32 = ((128 * (60 : Fin 64).val : ℕ) : ℝ) := by
  first | (simp [Ideal.ofBits, Ideal.ieee]; done) | (simp [Ideal.ofBits, Ideal.ieee]; rw [← EReal.coe_mul]; norm_num)
theorem first_61 : Ideal.ofBits .f32 0x45F40000#32 = ((128 * (61 : Fin 64).val : ℕ) : ℝ) := by
  first | (simp [Ideal.ofBits, Ideal.ieee]; done) | (simp [Ideal.ofBits, Ideal.ieee]; rw [← EReal.coe_mul]; norm_num)
theorem first_62 : Ideal.ofBits .f32 0x45F80000#32 = ((128 * (62 : Fin 64).val : ℕ) : ℝ) := by
  first | (simp [Ideal.ofBits, Ideal.ieee]; done) | (simp [Ideal.ofBits, Ideal.ieee]; rw [← EReal.coe_mul]; norm_num)
theorem first_63 : Ideal.ofBits .f32 0x45FC0000#32 = ((128 * (63 : Fin 64).val : ℕ) : ℝ) := by
  first | (simp [Ideal.ofBits, Ideal.ieee]; done) | (simp [Ideal.ofBits, Ideal.ieee]; rw [← EReal.coe_mul]; norm_num)

variable {td : ℕ → ℝ} {v21 : Vec Ideal S1x256 .f32} {v109 : Vec Ideal S256x1 .f32}
  (hv : ∀ l : Fin 256, v21 (ix2 0 l) = ((td l.val : ℝ) : EReal)) (hw : ∀ l : Fin 256, v109 (ix2 l 0) = ((td l.val : ℝ) : EReal))
  (hnn : ∀ k, k < 255 → 0 ≤ td (k + 1))
include hv hw hnn

theorem contrib_val (c : Ideal .f32) (a e : FVec Ideal S1x128 .f32) (l : Fin 128) (B na ne : ℕ) (hB : B + l.val < 8192) (hc : c = ((B : ℝ) : EReal))
    (ha : a (ix2 0 l) = ((na : ℝ) : EReal)) (he : e (ix2 0 l) = ((ne : ℝ) : EReal)) (hae : na ≤ ne) (hne : ne ≤ 8388608) :
    contrib (k2_pay5 v21) (table v21) (k2_pay15 v109) (iota .tc S256x128 32 [0] iota_S256x128_d0_w32) (k2_pay17 (F := Ideal)) c a e (ix2 0 l)
      = ((bin td (B + l.val) na ne : ℝ) : EReal) := by
  rw [contrib_eq]
  have hm := midV_val c l B hc
  have hk := knotV_val _ l _ hB hm
  have hx := crossV_val hv _ _ l _ hB hm hk
  have hs := cutV_val _ a e l _ na ne hx ha he
  have hle := split_le (M := 8388607) (cross td eps (knot (B + l.val)) (frac (B + l.val))) na ne
  have pa := point_val hv hnn hw a l na (by omega) ha
  have pe := point_val hv hnn hw e l ne (by omega) he
  have ps := point_val hv hnn hw _ l _ (by omega) hs
  unfold partV
  pointwise
  rw [hm, hs, ha, he, pa, pe, ps, ofBits_two]
  simp only [← EReal.coe_mul, ← EReal.coe_sub, ← EReal.coe_add]
  rfl

/-! ## The rows' sums -/

/-- Where a row's first bucket number is read. -/
theorem row_val (A : ℕ → ℕ) (hA : ∀ i, A i ≤ A (i + 1)) (hA8 : ∀ i, i ≤ 8192 → A i ≤ 8388608) (v19 v20 : FVec Ideal S64x128 .f32)
    (h19 : ∀ (r : Fin 64) (l : Fin 128), v19 (ix2 r l) = ((A (128 * r.val + l.val) : ℝ) : EReal))
    (h20 : ∀ (r : Fin 64) (l : Fin 128), v20 (ix2 r l) = ((A (128 * r.val + l.val + 1) : ℝ) : EReal))
    (r : Fin 64) (c : Ideal .f32) (hc : c = ((128 * r.val : ℕ) : ℝ)) (h : S64x128.Slices ![r.val, 0] S1x128) (t : FVec Ideal S1x128 .f32)
    (ht : ∀ l : Fin 128, t (ix2 0 l) = ((∑ r' ∈ Finset.range r.val, bin td (128 * r' + l.val) (A (128 * r' + l.val)) (A (128 * r' + l.val + 1)) : ℝ) : EReal)) (l : Fin 128) :
    row v19 v20 (k2_pay5 v21) (table v21) (k2_pay15 v109) (iota .tc S256x128 32 [0] iota_S256x128_d0_w32) (k2_pay17 (F := Ideal)) c ![r.val, 0] h t (ix2 0 l)
      = ((∑ r' ∈ Finset.range (r.val + 1), bin td (128 * r' + l.val) (A (128 * r' + l.val)) (A (128 * r' + l.val + 1)) : ℝ) : EReal) := by
  have hr := r.isLt
  have hl := l.isLt
  have e1 : extractStridedSlice S1x128 ![r.val, 0] v19 h (ix2 0 l) = v19 (ix2 r l) := by
    unfold extractStridedSlice
    congr 1
    funext a
    fin_cases a <;> apply Fin.ext <;> simp
  have e2 : extractStridedSlice S1x128 ![r.val, 0] v20 h (ix2 0 l) = v20 (ix2 r l) := by
    unfold extractStridedSlice
    congr 1
    funext a
    fin_cases a <;> apply Fin.ext <;> simp
  unfold row
  rw [addf_apply, ht, contrib_val hv hw hnn c _ _ l (128 * r.val) _ _ (by omega) hc (e1.trans (h19 r l)) (e2.trans (h20 r l)) (hA _) (hA8 _ (by omega)),
    Finset.sum_range_succ, EReal.coe_add]
  rfl

theorem rows_val (A : ℕ → ℕ) (hA : ∀ i, A i ≤ A (i + 1)) (hA8 : ∀ i, i ≤ 8192 → A i ≤ 8388608) (v19 v20 : FVec Ideal S64x128 .f32)
    (h19 : ∀ (r : Fin 64) (l : Fin 128), v19 (ix2 r l) = ((A (128 * r.val + l.val) : ℝ) : EReal))
    (h20 : ∀ (r : Fin 64) (l : Fin 128), v20 (ix2 r l) = ((A (128 * r.val + l.val + 1) : ℝ) : EReal)) (l : Fin 128) :
    rows v19 v20 (k2_pay5 v21) (table v21) (k2_pay15 v109) (iota .tc S256x128 32 [0] iota_S256x128_d0_w32) (k2_pay17 (F := Ideal)) (ix2 0 l)
      = ((∑ r ∈ Finset.range 64, bin td (128 * r + l.val) (A (128 * r + l.val)) (A (128 * r + l.val + 1)) : ℝ) : EReal) := by
  unfold rows
  have R := fun r c hc h t ht l => row_val hv hw hnn A hA hA8 v19 v20 h19 h20 r c hc h t ht l
  refine R 63 _ first_63 _ _ (fun l => ?_) l
  refine R 62 _ first_62 _ _ (fun l => ?_) l
  refine R 61 _ first_61 _ _ (fun l => ?_) l
  refine R 60 _ first_60 _ _ (fun l => ?_) l
  refine R 59 _ first_59 _ _ (fun l => ?_) l
  refine R 58 _ first_58 _ _ (fun l => ?_) l
  refine R 57 _ first_57 _ _ (fun l => ?_) l
  refine R 56 _ first_56 _ _ (fun l => ?_) l
  refine R 55 _ first_55 _ _ (fun l => ?_) l
  refine R 54 _ first_54 _ _ (fun l => ?_) l
  refine R 53 _ first_53 _ _ (fun l => ?_) l
  refine R 52 _ first_52 _ _ (fun l => ?_) l
  refine R 51 _ first_51 _ _ (fun l => ?_) l
  refine R 50 _ first_50 _ _ (fun l => ?_) l
  refine R 49 _ first_49 _ _ (fun l => ?_) l
  refine R 48 _ first_48 _ _ (fun l => ?_) l
  refine R 47 _ first_47 _ _ (fun l => ?_) l
  refine R 46 _ first_46 _ _ (fun l => ?_) l
  refine R 45 _ first_45 _ _ (fun l => ?_) l
  refine R 44 _ first_44 _ _ (fun l => ?_) l
  refine R 43 _ first_43 _ _ (fun l => ?_) l
  refine R 42 _ first_42 _ _ (fun l => ?_) l
  refine R 41 _ first_41 _ _ (fun l => ?_) l
  refine R 40 _ first_40 _ _ (fun l => ?_) l
  refine R 39 _ first_39 _ _ (fun l => ?_) l
  refine R 38 _ first_38 _ _ (fun l => ?_) l
  refine R 37 _ first_37 _ _ (fun l => ?_) l
  refine R 36 _ first_36 _ _ (fun l => ?_) l
  refine R 35 _ first_35 _ _ (fun l => ?_) l
  refine R 34 _ first_34 _ _ (fun l => ?_) l
  refine R 33 _ first_33 _ _ (fun l => ?_) l
  refine R 32 _ first_32 _ _ (fun l => ?_) l
  refine R 31 _ first_31 _ _ (fun l => ?_) l
  refine R 30 _ first_30 _ _ (fun l => ?_) l
  refine R 29 _ first_29 _ _ (fun l => ?_) l
  refine R 28 _ first_28 _ _ (fun l => ?_) l
  refine R 27 _ first_27 _ _ (fun l => ?_) l
  refine R 26 _ first_26 _ _ (fun l => ?_) l
  refine R 25 _ first_25 _ _ (fun l => ?_) l
  refine R 24 _ first_24 _ _ (fun l => ?_) l
  refine R 23 _ first_23 _ _ (fun l => ?_) l
  refine R 22 _ first_22 _ _ (fun l => ?_) l
  refine R 21 _ first_21 _ _ (fun l => ?_) l
  refine R 20 _ first_20 _ _ (fun l => ?_) l
  refine R 19 _ first_19 _ _ (fun l => ?_) l
  refine R 18 _ first_18 _ _ (fun l => ?_) l
  refine R 17 _ first_17 _ _ (fun l => ?_) l
  refine R 16 _ first_16 _ _ (fun l => ?_) l
  refine R 15 _ first_15 _ _ (fun l => ?_) l
  refine R 14 _ first_14 _ _ (fun l => ?_) l
  refine R 13 _ first_13 _ _ (fun l => ?_) l
  refine R 12 _ first_12 _ _ (fun l => ?_) l
  refine R 11 _ first_11 _ _ (fun l => ?_) l
  refine R 10 _ first_10 _ _ (fun l => ?_) l
  refine R 9 _ first_9 _ _ (fun l => ?_) l
  refine R 8 _ first_8 _ _ (fun l => ?_) l
  refine R 7 _ first_7 _ _ (fun l => ?_) l
  refine R 6 _ first_6 _ _ (fun l => ?_) l
  refine R 5 _ first_5 _ _ (fun l => ?_) l
  refine R 4 _ first_4 _ _ (fun l => ?_) l
  refine R 3 _ first_3 _ _ (fun l => ?_) l
  refine R 2 _ first_2 _ _ (fun l => ?_) l
  refine R 1 _ first_1 _ _ (fun l => ?_) l
  refine R 0 _ first_0 _ _ (fun l => ?_) l
  show Ideal.ofBits .f32 0x00000000#32 = _
  rw [first_0]
  simp

/-! ## The ranks where the buckets begin and end -/

omit hv hw hnn
/-- The number of values in the buckets below `i`. -/
def below (H : ℕ → ℕ) (i : ℕ) : ℕ := ∑ j ∈ Finset.range i, H j

theorem below_succ (H : ℕ → ℕ) (i : ℕ) : below H (i + 1) = below H i + H i := Finset.sum_range_succ _ _

theorem sum_row (H : ℕ → ℕ) (r l : ℕ) : ∑ j ∈ Finset.range (l + 1), (H (128 * r + j) : ℝ) = (below H (128 * r + l + 1) : ℝ) - below H (128 * r) := by
  induction l with
  | zero => rw [Finset.sum_range_one, below_succ]; push_cast; ring_nf
  | succ l ih => rw [Finset.sum_range_succ, ih, show 128 * r + (l + 1) + 1 = (128 * r + l + 1) + 1 by omega, below_succ H (128 * r + l + 1)]; push_cast; ring_nf

/-- All rows before `r`. -/
theorem sum_rows (H : ℕ → ℕ) (r : ℕ) : ∑ x ∈ Finset.range r, ((below H (128 * x + 128) : ℝ) - below H (128 * x)) = (below H (128 * r) : ℝ) := by
  induction r with
  | zero => simp [below]
  | succ r ih => rw [Finset.sum_range_succ, ih, Nat.mul_succ]; ring

section
variable {H : ℕ → ℕ} {v0 : Vec Ideal S32x64x128 .i32} (hH : ∀ i, H i < 2 ^ 31)
  (h0 : ∀ (r : Fin 64) (l : Fin 128), multiReductionI .add [0] S64x128 v0 0#32 reduces_S32x64x128_S64x128 rfl (ix2 r l) = BitVec.ofNat 32 (H (128 * r.val + l.val)))
include hH h0

theorem pay2_val (r : Fin 64) (l : Fin 128) : k2_pay2 (F := Ideal) v0 (ix2 r l) = ((H (128 * r.val + l.val) : ℝ) : EReal) := by
  unfold k2_pay2
  rw [shapeCast_self]
  show FloatOps.sitofp (F := Ideal) .f32 (multiReductionI .add [0] S64x128 v0 0#32 reduces_S32x64x128_S64x128 rfl (ix2 r l)) = _
  rw [h0, sitofp_ofNat (hH _)]

theorem pay3_val (r : Fin 64) (l : Fin 128) : k2_pay3 (F := Ideal) v0 (ix2 r l) = ((below H (128 * r.val + l.val) : ℝ) : EReal) := by
  have hr := r.isLt
  have hl := l.isLt
  have s1 : ∀ (x : Fin 64) (y : ℕ), y < 128 → ∑ z : Fin 128, k2_pay2 (F := Ideal) v0 (ix2 x z) * FloatOps.sitofp (F := Ideal) FTy.f32 (BitVec.setWidth 32 (IntOp.cmpi CmpIPredicate.sle (BitVec.ofNat 32 z.val) (BitVec.ofNat 32 y)))
      = (((below H (128 * x.val + y + 1) : ℝ) - below H (128 * x.val) : ℝ) : EReal) := fun x y hy => by
    rw [sum_mul _ _ (fun z => (H (128 * x.val + z.val) : ℝ)) (fun z => bit (z.val ≤ y)) (fun z => by
      rw [cmpi_sle (by have := z.isLt; omega) (by omega), mask_decide]) (fun z => Or.inl (pay2_val hH h0 x z)),
      sum_bit_le (fun z => (H (128 * x.val + z) : ℝ)) y hy, sum_row]
  unfold k2_pay3
  pointwise
  rw [show (127#32 : BitVec 32) = BitVec.ofNat 32 127 from rfl]
  simp only [fun x : Fin 64 => s1 x 127 (by omega)]
  rw [s1 r l.val hl, pay2_val hH h0, Finset.sum_congr rfl fun x _ => mul_comm _ _,
    sum_mul _ _ (fun x => (below H (128 * x.val + 128) : ℝ) - below H (128 * x.val)) (fun x => bit (x.val < r.val)) (fun x => by
      rw [cmpi_slt (by have := x.isLt; omega) (by omega), mask_decide]) (fun x => Or.inl rfl),
    sum_bit_lt (fun x => (below H (128 * x + 128) : ℝ) - below H (128 * x)) r.val (by omega), sum_rows, below_succ, ← EReal.coe_add, ← EReal.coe_sub]
  congr 1
  push_cast
  ring

theorem pay4_val (r : Fin 64) (l : Fin 128) : k2_pay4 (F := Ideal) v0 (ix2 r l) = ((below H (128 * r.val + l.val + 1) : ℝ) : EReal) := by
  unfold k2_pay4
  pointwise
  rw [pay3_val hH h0, pay2_val hH h0, below_succ, ← EReal.coe_add]
  push_cast
  rfl
end

theorem last_val (t : FVec Ideal S1x128 .f32) (f : ℕ → ℝ) (ht : ∀ l : Fin 128, t (ix2 0 l) = ((f l.val : ℝ) : EReal)) :
    last t (ix2 0 0) = (((∑ l ∈ Finset.range 128, f l) / 8388608 : ℝ) : EReal) := by
  unfold last
  pointwise
  rw [ofBits_8388608, Fin.sum_univ_one, Finset.sum_congr rfl fun x _ => ht x, sum_coe, div_coe_coe _ _ (by norm_num),
    Fin.sum_univ_eq_sum_range f 128]

theorem sum_blocks (f : ℕ → ℝ) (n : ℕ) : ∑ r ∈ Finset.range n, ∑ l ∈ Finset.range 128, f (128 * r + l) = ∑ i ∈ Finset.range (128 * n), f i := by
  induction n with
  | zero => simp
  | succ n ih => rw [Finset.sum_range_succ, ih, Nat.mul_succ, Finset.sum_range_add]

include hv hw hnn in
/-- The loss, from the number of values in each bucket and the target. -/
theorem loss_val (H : ℕ → ℕ) (v0 : Vec Ideal S32x64x128 .i32) (hH : below H 8192 = 8388608)
    (h0 : ∀ (r : Fin 64) (l : Fin 128), multiReductionI .add [0] S64x128 v0 0#32 reduces_S32x64x128_S64x128 rfl (ix2 r l) = BitVec.ofNat 32 (H (128 * r.val + l.val))) :
    loss v0 v21 v109 (ix2 0 0) = (((∑ i ∈ Finset.range 8192, bin td i (below H i) (below H (i + 1))) / 8388608 : ℝ) : EReal) := by
  have hA : ∀ i, below H i ≤ below H (i + 1) := fun i => by rw [below_succ]; omega
  have hm : ∀ {i j}, i ≤ j → below H i ≤ below H j := fun h => Finset.sum_le_sum_of_subset (Finset.range_subset_range.2 h)
  have hH' : ∀ i, (if i < 8192 then H i else 0) < 2 ^ 31 := fun i => by
    split
    · have := hm (i := i + 1) (j := 8192) (by omega)
      rw [below_succ] at this
      omega
    · norm_num
  have hb : ∀ i, i ≤ 8192 → below (fun i => if i < 8192 then H i else 0) i = below H i := fun i hi =>
    Finset.sum_congr rfl fun j hj => if_pos (by rw [Finset.mem_range] at hj; omega)
  have h0' : ∀ (r : Fin 64) (l : Fin 128), multiReductionI .add [0] S64x128 v0 0#32 reduces_S32x64x128_S64x128 rfl (ix2 r l)
      = BitVec.ofNat 32 ((fun i => if i < 8192 then H i else 0) (128 * r.val + l.val)) := fun r l => by
    rw [h0]
    exact congrArg _ (if_pos (by have := r.isLt; have := l.isLt; omega)).symm
  unfold loss
  rw [last_val _ (fun l => ∑ r ∈ Finset.range 64, bin td (128 * r + l) (below H (128 * r + l)) (below H (128 * r + l + 1))) fun l =>
    rows_val hv hw hnn (below H) hA (fun i hi => (hm hi).trans hH.le) _ _
      (fun r l => by rw [pay3_val hH' h0' r l, hb _ (by have := r.isLt; have := l.isLt; omega)])
      (fun r l => by rw [pay4_val hH' h0' r l, hb _ (by have := r.isLt; have := l.isLt; omega)]) l]
  rw [Finset.sum_comm, sum_blocks (fun i => bin td i (below H i) (below H (i + 1))) 64]

end Cert.KernelIdeal.Asm

end
-- ==== Proof.Tally.lean ====
/-
  The counts of the bucket numbers: how many of all values have a bucket number, and the loss that the program ends with in
  terms of these counts.
-/
module

public import proofs.«01_k».proof.Proof.Loss
public import proofs.«01_k».proof.Proof.LaunchI

@[expose] public section

set_option maxRecDepth 65536

noncomputable section

namespace Cert.KernelIdeal.Tally

open Cert.KernelIdeal Cert.KernelIdeal.Gen Cert.KernelIdeal.Asm Cert.KernelIdeal.Hist
open Idealize.ShloMosaic Idealize.SL.Sem
open Cert.Proof.Read Cert.Proof.Ranks
open Cert.Proof.Count (cnt)
open Finset (range)

/-- How many of the first `n` numbers of `f` are `b`. -/
def hits (f : ℕ → ℕ) (n b : ℕ) : ℕ := ((range n).filter fun p => f p = b).card

theorem hits_blocks (f : ℕ → ℕ) (k b n : ℕ) : ∑ i ∈ range n, hits (fun j => f (k * i + j)) k b = hits f (k * n) b := by
  induction n with
  | zero => simp [hits]
  | succ n ih =>
    rw [Finset.sum_range_succ, ih, Nat.mul_succ]
    unfold hits
    simp only [Finset.card_filter]
    rw [Finset.sum_range_add]

theorem below_hits (f : ℕ → ℕ) (n i : ℕ) : below (hits f n) i = ((range n).filter fun p => f p < i).card := by
  induction i with
  | zero => simp [below]
  | succ i ih =>
    rw [below_succ, ih]
    unfold hits
    rw [← Finset.card_union_of_disjoint]
    · congr 1
      ext p
      simp only [Finset.mem_union, Finset.mem_filter]
      constructor
      · rintro (⟨h, h'⟩ | ⟨h, h'⟩) <;> exact ⟨h, by omega⟩
      · rintro ⟨h, h'⟩
        rcases Nat.lt_or_ge (f p) i with h'' | h''
        · exact Or.inl ⟨h, h''⟩
        · exact Or.inr ⟨h, by omega⟩
    · rw [Finset.disjoint_filter]
      intro p _ h h'
      omega

theorem below_all (f : ℕ → ℕ) (n i : ℕ) (hf : ∀ p, p < n → f p < i) : below (hits f n) i = n := by
  rw [below_hits, Finset.filter_true_of_mem fun p hp => hf p (Finset.mem_range.1 hp), Finset.card_range]

/-- Where the numbers are put in order, the places of `i` are those from `below i` on. -/
theorem sorted_at (f c : ℕ → ℕ) (n : ℕ) (hmono : ∀ i j, i ≤ j → j < n → c i ≤ c j)
    (hsame : ∀ i, ((range n).filter fun p => c p < i).card = ((range n).filter fun p => f p < i).card) (i m : ℕ) (hm : m < n)
    (h1 : below (hits f n) i ≤ m) (h2 : m < below (hits f n) (i + 1)) : c m = i := by
  rw [below_hits, ← hsame] at h1 h2
  have k1 := lt_card_iff (n := n) (fun p => c p < i) (fun a b hab hb h => (hmono a b hab hb).trans_lt h) m hm
  have k2 := lt_card_iff (n := n) (fun p => c p < i + 1) (fun a b hab hb h => (hmono a b hab hb).trans_lt h) m hm
  have := k2.1 h2
  have := mt k1.2 (by omega)
  omega

theorem fold_ofNat {ι : Type} (s : Finset ι) (g : ι → ℕ) : Finset.fold IntOp.addi 0#32 (fun x => BitVec.ofNat 32 (g x)) s = BitVec.ofNat 32 (∑ x ∈ s, g x) := by
  classical
  induction s using Finset.induction_on with
  | empty => simp
  | insert a s ha ih =>
    rw [Finset.fold_insert ha, Finset.sum_insert ha, ih, BitVec.ofNat_add]
    rfl

variable (m : (ℓ : Loc nD τ sig) → Buf (Elt Ideal) ℓ) (c : Dev nD)

/-- The bucket number of value `p`. -/
def num (p : ℕ) : ℕ := (words (flat (image m c)) 0 p).toNat

theorem num_lt (p : ℕ) : num m c p < 8192 := by
  unfold num words
  split
  · exact flat_lt _ _
  · norm_num

theorem tab_val (r : Fin 64) (l : Fin 128) : multiReductionI .add [0] S64x128 (tab m c) 0#32 reduces_S32x64x128_S64x128 rfl (ix2 r l)
    = BitVec.ofNat 32 (hits (num m c) 8388608 (128 * r.val + l.val)) := by
  have hr := r.isLt
  have hl := l.isLt
  have ht : ∀ i : Fin 32, tab m c (ix3 i r l) = BitVec.ofNat 32 (hits (fun j => num m c (262144 * i.val + j)) 262144 (128 * r.val + l.val)) := fun i => by
    have hi := i.isLt
    have e : tab m c (ix3 i r l) = counts (flat (image m c)) (ix2 i ⟨128 * r.val + l.val, by omega⟩) := by
      unfold tab
      refine shapeCast_apply _ _ _ _ ?_
      rw [Shape.rowMajor_val_two, Shape.rowMajor_val_three]
      show i.val * 8192 + (128 * r.val + l.val) = (i.val * 64 + r.val) * 128 + l.val
      omega
    rw [e]
    have hw : ∀ j, (words (flat (image m c)) (262144 * i.val) j).toNat = num m c (262144 * i.val + j) := fun j => by
      unfold num words
      simp only [Nat.zero_add]
    have hc : ∀ (w : ℕ → BitVec 32) (f : ℕ → ℕ) (n b : ℕ), (∀ j, (w j).toNat = f j) → cnt w n b = BitVec.ofNat 32 (hits f n b) := fun w f n b h => by
      unfold cnt hits
      simp only [h]
    exact hc _ _ 262144 _ hw
  pointwise
  rw [Finset.fold_congr fun i _ => ht i, fold_ofNat, ← hits_blocks (num m c) 262144 (128 * r.val + l.val) 32,
    ← Fin.sum_univ_eq_sum_range (fun i => hits (fun j => num m c (262144 * i + j)) 262144 (128 * r.val + l.val)) 32]

variable {td : ℕ → ℝ}

/-- The loss that the program ends with. -/
theorem lossOf_val (htd : ∀ j : Fin 256, target m c (ix1 j) = ((td j.val : ℝ) : EReal)) (hnn : ∀ k, k < 255 → 0 ≤ td (k + 1)) :
    lossOf m c = fun _ => (((∑ i ∈ range 8192, bin td i (below (hits (num m c) 8388608) i) (below (hits (num m c) 8388608) (i + 1))) / 8388608 : ℝ) : EReal) := by
  funext y
  rw [← loss_val (v21 := tdRow m c) (v109 := tdCol m c) (td := td) (fun l => ?_) (fun l => ?_) hnn _ (tab m c)
    (below_all _ _ _ fun p _ => num_lt m c p) (tab_val m c)]
  · unfold lossOf lossArr
    exact shapeCast_apply _ _ _ _ (by rw [Shape.rowMajor_val_two]; exact (Nat.lt_one_iff.1 (Fin.isLt _)).symm)
  · rw [← htd]
    unfold tdRow
    pointwise
  · rw [← htd]
    unfold tdCol
    pointwise

end Cert.KernelIdeal.Tally

end
-- ==== Proof.Curve.lean ====
/-
  The reference's parts as real numbers: the levels, the cumulative target, the segment a level lies in, the quantile, and the
  values in order.
-/
module

public import proofs.«01_k».proof.Proof.Tally
public import proofs.«01_k».proof.Proof.Gen.ReferenceIdeal
public import proofs.«01_k».proof.Proof.Gen.ReferenceIdeal.Run
public import Idealize.ShloMosaic.Lib.SortFacts
public import Idealize.ShloMosaic.Lib.Routing.OpsSet
public import Idealize.ShloMosaic.Lib.Pointwise.Reduce
public import Idealize.ShloMosaic.PureOps.Ideal.Laws

@[expose] public section

set_option maxRecDepth 16384

noncomputable section

namespace Cert.Proof.Curve

open Idealize.ShloMosaic
open Cert.ReferenceIdeal Cert.ReferenceIdeal.Gen
open Cert.Proof.Read Cert.Proof.Ranks
open Cert.KernelIdeal.Asm (mid below)
open Cert.KernelIdeal.Tally (hits)

variable {F : FTy → Type} [FloatOps F] [Named F]

/-! ## The reference's values by name -/

/-- The values' bucket numbers. -/
def word (x : FVec F S32x3x512x512 .f32) : IVec S8388608 32 :=
  minsi (broadcastInDim S8388608 ![] bcast_S_S8388608 (id (constantI S_ 32 8191#32)))
    (maxsi (broadcastInDim S8388608 ![] bcast_S_S8388608 (id (constantI S_ 32 0#32)))
      (fptosi 32 (Host.floor (mulf (shapeCast _ (Host.divf (Host.reduceAdd x (constant S_ .f32 0x00000000#32) reducesTo_S32x3x512x512_S32x512x512_d1 h_S_)
        (broadcastInDim S32x512x512 ![] bcast_S_S32x512x512 (constant S_ .f32 0x40400000#32))) shapeCasts_S32x512x512_S8388608)
        (broadcastInDim S8388608 ![] bcast_S_S8388608 (constant S_ .f32 0x46000000#32))))))

/-- The midpoints of the values' buckets. -/
def mids (x : FVec F S32x3x512x512 .f32) : FVec F S8388608 .f32 :=
  Host.divf (addf (sitofp .f32 (word x)) (broadcastInDim S8388608 ![] bcast_S_S8388608 (constant S_ .f32 0x3F000000#32)))
    (broadcastInDim S8388608 ![] bcast_S_S8388608 (constant S_ .f32 0x46000000#32))

/-- The ranks' levels. -/
def level : FVec F S8388608 .f32 :=
  Host.divf (sitofp .f32 (iotaInDim S8388608 32 0)) (broadcastInDim S8388608 ![] bcast_S_S8388608 (constant S_ .f32 0x4AFFFFFE#32))

/-- The cumulative target. -/
def cum (td : FVec F S256 .f32) : FVec F S256 .f32 :=
  Host.reduceWindowAdd ![256] ![1] ![255] ![0] td (broadcastInDim S_ ![] bcast_S_S_ (constant S_ .f32 0x00000000#32)) reduceWindows_S256_S256_w256s1p255_0 h_S_

/-- The quantiles at the target's entries. -/
def steps : FVec F S256 .f32 :=
  Host.divf (sitofp .f32 (iotaInDim S256 32 0)) (broadcastInDim S256 ![] bcast_S_S256 (constant S_ .f32 0x437F0000#32))

/-- The segment's right end, rank by rank. -/
def right (td : FVec F S256 .f32) : IVec S8388608 32 :=
  minsi (broadcastInDim S8388608 ![] bcast_S_S8388608 (id (constantI S_ 32 255#32)))
    (maxsi (broadcastInDim S8388608 ![] bcast_S_S8388608 (id (constantI S_ 32 1#32)))
      (Host.reduce IntOp.addi (extui 32 (cmpf .ole
        (broadcastInDim S8388608x256 ![0, 1] bcast_S1x256_S8388608x256_0_1 (broadcastInDim S1x256 ![1] bcast_S256_S1x256_1 (cum td)))
        (broadcastInDim S8388608x256 ![0, 1] bcast_S8388608x1_S8388608x256_0_1 (broadcastInDim S8388608x1 ![0] bcast_S8388608_S8388608x1_0 level))) natLt_1_32)
        (constantI S_ 32 0#32) reducesTo_S8388608x256_S8388608_d1 h_S_))

/-- The segment's left end, rank by rank. -/
def left (td : FVec F S256 .f32) : IVec S8388608 32 :=
  subi (right td) (broadcastInDim S8388608 ![] bcast_S_S8388608 (constantI S_ 32 1#32))

/-- The entries of a table of 256 that the numbers `i` name. -/
def take (t : FVec F S256 .f32) (i : IVec S8388608 32) : FVec F S8388608 .f32 :=
  Host.gather gather_S256_S8388608x1_S8388608_n_0_n_n_0_1_1 t (broadcastInDim S8388608x1 ![0] bcast_S8388608_S8388608x1_0
    (select (cmpi .slt i (broadcastInDim S8388608 ![] bcast_S_S8388608 (constantI S_ 32 0#32)))
      (addi i (broadcastInDim S8388608 ![] bcast_S_S8388608 (constantI S_ 32 256#32))) i))

/-- The quantile, rank by rank. -/
def quantile (td : FVec F S256 .f32) : FVec F S8388608 .f32 :=
  addf (take steps (left td)) (mulf
    (Host.divf (subf level (take (cum td) (left td)))
      (addf (subf (take (cum td) (right td)) (take (cum td) (left td))) (broadcastInDim S8388608 ![] bcast_S_S8388608 (constant S_ .f32 0x322BCC77#32))))
    (subf (take steps (right td)) (take steps (left td))))

/-- The loss. -/
def loss (x : FVec F S32x3x512x512 .f32) (td : FVec F S256 .f32) : FVec F S_ .f32 :=
  Host.divf (Host.reduceAdd (Host.absf (subf (Host.sort S8388608 0 comparator_f32_d0 (mids x)) (quantile td))) (constant S_ .f32 0x00000000#32)
    reducesTo_S8388608_S_d0 h_S_) (constant S_ .f32 0x4B000000#32)

theorem res_eq (m : (ℓ : Loc nD τ sig) → Buf (Elt F) ℓ) (c : Dev nD) :
    Cert.ReferenceIdeal.Value.res_main_v87 m c = loss (m ((c.tc : Thread nD τ).loc main_arg0)) (m ((c.tc : Thread nD τ).loc main_arg1)) := by
  unfold Cert.ReferenceIdeal.Value.res_main_v87
  rfl

/-! ## The cumulative target -/

theorem foldl_coe {n : ℕ} (L : List (Fin n)) (G : EReal → Fin n → EReal) (f : ℕ → ℝ) (hG : ∀ r i, G r i = r + ((f i.val : ℝ) : EReal)) (r : ℝ) :
    L.foldl G (r : EReal) = ((r + (L.map fun i => f i.val).sum : ℝ) : EReal) := by
  induction L generalizing r with
  | nil => simp
  | cons a L ih =>
    rw [List.foldl_cons, hG, ← EReal.coe_add, ih, List.map_cons, List.sum_cons, add_assoc]

theorem sum_tail (f : ℕ → ℝ) (j : ℕ) (hj : j < 256) : ∑ i ∈ Finset.range 256, (if 255 ≤ j + i then f (j + i - 255) else 0) = ∑ i ∈ Finset.range (j + 1), f i := by
  rw [show 256 = (255 - j) + (j + 1) by omega, Finset.sum_range_add, Finset.sum_eq_zero, zero_add]
  · refine Finset.sum_congr rfl fun i _ => ?_
    rw [if_pos (by omega)]
    congr 1
    omega
  · intro i hi
    rw [Finset.mem_range] at hi
    exact if_neg (by omega)

theorem cum_val (td : ℕ → ℝ) (x : FVec Ideal S256 .f32) (hx : ∀ k : Fin 256, x (ix1 k) = ((td k.val : ℝ) : EReal)) (j : Fin 256) :
    cum x (ix1 j) = ((tc td j.val : ℝ) : EReal) := by
  have hj := j.isLt
  have hz : Ideal.ofBits .f32 0x00000000#32 = ((0 : ℝ) : EReal) := by rw [Ideal.ofBits_zero_f32, EReal.coe_zero]
  have hn : ∀ n : Fin (Routing.shape1 256).numel, ((Routing.shape1 256).rowMajor.symm n 0).val = n.val := fun n => by rw [Routing.symm1]; rfl
  show Ideal.hostReduceWindowAdd ![256] ![1] ![255] ![0] reduceWindows_S256_S256_w256s1p255_0 x (Ideal.ofBits .f32 0x00000000#32) (ix1 j) = _
  rw [hz]
  unfold Ideal.hostReduceWindowAdd Host.reduceWindow
  refine (foldl_coe _ _ (fun n => if 255 ≤ j.val + n then td (j.val + n - 255) else 0) (fun r n => ?_) 0).trans ?_
  · have hn' : n.val < 256 := (n.cast (Routing.numel1 _)).isLt
    have hn0 := hn n
    dsimp only
    congr 1
    split
    · next hin =>
      have h0 := hin 0
      change 255 ≤ j.val * 1 + ((Routing.shape1 256).rowMajor.symm n 0).val ∧ j.val * 1 + ((Routing.shape1 256).rowMajor.symm n 0).val - 255 < 256 at h0
      rw [hn0] at h0
      rw [if_pos (by omega)]
      refine (congrArg x (funext fun a => Fin.ext ?_)).trans (hx ⟨j.val + n.val - 255, by omega⟩)
      match a with
      | ⟨0, _⟩ =>
        show j.val * 1 + ((Routing.shape1 256).rowMajor.symm n 0).val - 255 = j.val + n.val - 255
        rw [hn0, Nat.mul_one]
    · next hin =>
      rw [if_neg fun hle => hin fun a => by
        match a with
        | ⟨0, _⟩ =>
          show 255 ≤ j.val * 1 + ((Routing.shape1 256).rowMajor.symm n 0).val ∧ j.val * 1 + ((Routing.shape1 256).rowMajor.symm n 0).val - 255 < 256
          rw [hn0]
          omega]
  · rw [zero_add, ← Fin.sum_univ_def, Fin.sum_univ_eq_sum_range (fun n => if 255 ≤ j.val + n then td (j.val + n - 255) else 0),
      show (Routing.shape1 256).numel = 256 from Routing.numel1 256]
    exact congrArg _ (sum_tail td j.val hj)

end Cert.Proof.Curve

end
-- ==== Proof.Quantile.lean ====
/-
  The reference's quantile at a rank is the quantile of the rank's segment.
-/
module

public import proofs.«01_k».proof.Proof.Curve

@[expose] public section

set_option maxRecDepth 16384

noncomputable section

namespace Cert.Proof.Curve

open Idealize.ShloMosaic
open Cert.ReferenceIdeal Cert.ReferenceIdeal.Gen
open Cert.Proof.Read Cert.Proof.Ranks

theorem level_val (m : Fin 8388608) : level (F := Ideal) (ix1 m) = (((m.val : ℝ) / (8388607 : ℕ) : ℝ) : EReal) := by
  have hm := m.isLt
  have e : level (F := Ideal) (ix1 m) = Ideal.div (FloatOps.sitofp (F := Ideal) .f32 (BitVec.ofNat 32 m.val)) (Ideal.ofBits .f32 0x4AFFFFFE#32) := rfl
  rw [e, sitofp_ofNat (by omega), ofBits_8388607, div_coe_coe _ _ (by norm_num)]
  norm_num

theorem steps_val (k : Fin 256) : steps (F := Ideal) (ix1 k) = (((k.val : ℝ) / 255 : ℝ) : EReal) := by
  have hk := k.isLt
  have e : steps (F := Ideal) (ix1 k) = Ideal.div (FloatOps.sitofp (F := Ideal) .f32 (BitVec.ofNat 32 k.val)) (Ideal.ofBits .f32 0x437F0000#32) := rfl
  rw [e, sitofp_ofNat (by omega), ofBits_255, div_coe_coe _ _ (by norm_num)]

/-- The number of cumulative entries up to a level, held between 1 and 255, is the level's segment plus one. -/
theorem count_top {td : ℕ → ℝ} (hnn : ∀ k, k < 255 → 0 ≤ td (k + 1)) {M : ℕ} (hM : 0 < M) (m : ℕ) (hm : m ≤ M) (Q : ℕ → Prop) [DecidablePred Q]
    (hQ : ∀ k, Q k ↔ tc td k ≤ (m : ℝ) / M) : min 255 (max 1 (Nat.count Q 256)) = top td M m + 1 := by
  obtain ⟨R, hR⟩ : ∃ R, Nat.count Q 256 = R := ⟨_, rfl⟩
  have hr : ∀ k, k < 256 → (k < R ↔ Q k) := fun k hk => by
    rw [← hR, Nat.count_eq_card_filter_range]
    exact lt_card_iff Q (fun i j hij hj h => (hQ i).2 ((tc_le hnn hij (by omega)).trans ((hQ j).1 h))) k hk
  rw [hR]
  have ht := top_le (td := td) (M := M) m
  have key : ∀ k, k ≠ 0 → k ≤ 254 → (k ≤ top td M m ↔ k < R) := fun k h0 h4 => by
    rw [hr k (by omega), hQ, ← lo_le_iff hM k m h4 h0 hm, le_top hnn k m h4]
  have h1 := key (top td M m)
  have h2 := key (top td M m + 1)
  omega

theorem ofBool_iff (p : Prop) [Decidable p] : BitVec.ofBool (decide p) = 1#1 ↔ p := by
  by_cases h : p <;> simp [h]

theorem held (n : ℕ) (hn : n ≤ 256) : IntOp.minsi 255#32 (IntOp.maxsi 1#32 (BitVec.ofNat 32 n)) = BitVec.ofNat 32 (min 255 (max 1 n)) := by
  have h : ∀ n : Fin 257, IntOp.minsi 255#32 (IntOp.maxsi 1#32 (BitVec.ofNat 32 n.val)) = BitVec.ofNat 32 (min 255 (max 1 n.val)) := by decide
  exact h ⟨n, by omega⟩

section
variable {td : ℕ → ℝ} (hnn : ∀ k, k < 255 → 0 ≤ td (k + 1)) {x : FVec Ideal S256 .f32} (hx : ∀ k : Fin 256, x (ix1 k) = ((td k.val : ℝ) : EReal))
include hnn hx

theorem right_val (m : Fin 8388608) : right x (ix1 m) = BitVec.ofNat 32 (top td 8388607 m.val + 1) := by
  classical
  have hm := m.isLt
  have e : right x (ix1 m) = IntOp.minsi 255#32 (IntOp.maxsi 1#32 (Host.reduce IntOp.addi (extui 32 (cmpf .ole
        (broadcastInDim S8388608x256 ![0, 1] bcast_S1x256_S8388608x256_0_1 (broadcastInDim S1x256 ![1] bcast_S256_S1x256_1 (cum x)))
        (broadcastInDim S8388608x256 ![0, 1] bcast_S8388608x1_S8388608x256_0_1 (broadcastInDim S8388608x1 ![0] bcast_S8388608_S8388608x1_0 level))) natLt_1_32)
        (constantI S_ 32 0#32) reducesTo_S8388608x256_S8388608_d1 h_S_ (ix1 m))) := rfl
  have hc := Routing.reduce_count (n := 8388608) (m := 256) (by norm_num) (cmpf (F := Ideal) (φ := .f32) .ole
        (broadcastInDim S8388608x256 ![0, 1] bcast_S1x256_S8388608x256_0_1 (broadcastInDim S1x256 ![1] bcast_S256_S1x256_1 (cum x)))
        (broadcastInDim S8388608x256 ![0, 1] bcast_S8388608x1_S8388608x256_0_1 (broadcastInDim S8388608x1 ![0] bcast_S8388608_S8388608x1_0 level)))
        natLt_1_32 reducesTo_S8388608x256_S8388608_d1 h_S_ m (fun k => tc td k ≤ ((m.val : ℕ) : ℝ) / (8388607 : ℕ)) (fun k => by
    have hl : broadcastInDim S8388608x256 ![0, 1] bcast_S1x256_S8388608x256_0_1 (broadcastInDim S1x256 ![1] bcast_S256_S1x256_1 (cum x)) (ix2 m k) = cum x (ix1 k) := by
      pointwise
    have hr : broadcastInDim S8388608x256 ![0, 1] bcast_S8388608x1_S8388608x256_0_1 (broadcastInDim S8388608x1 ![0] bcast_S8388608_S8388608x1_0 (level (F := Ideal))) (ix2 m k)
        = level (F := Ideal) (ix1 m) := by
      pointwise
    show Ideal.cmp .ole (broadcastInDim S8388608x256 ![0, 1] bcast_S1x256_S8388608x256_0_1 (broadcastInDim S1x256 ![1] bcast_S256_S1x256_1 (cum x)) (ix2 m k))
      (broadcastInDim S8388608x256 ![0, 1] bcast_S8388608x1_S8388608x256_0_1 (broadcastInDim S8388608x1 ![0] bcast_S8388608_S8388608x1_0 (level (F := Ideal))) (ix2 m k)) = 1#1 ↔ _
    rw [hl, hr, cum_val td x hx, level_val]
    show BitVec.ofBool (decide (_ ≤ _)) = 1#1 ↔ _
    rw [ofBool_iff, EReal.coe_le_coe_iff])
  refine e.trans ((congrArg (fun z => IntOp.minsi 255#32 (IntOp.maxsi 1#32 z)) hc).trans ?_)
  have ht := count_top hnn (M := 8388607) (by norm_num) m.val (by omega) (fun k => tc td k ≤ ((m.val : ℕ) : ℝ) / (8388607 : ℕ)) (fun k => Iff.rfl)
  have hle := Nat.count_le (p := fun k => tc td k ≤ ((m.val : ℕ) : ℝ) / (8388607 : ℕ)) (n := 256)
  generalize Nat.count (fun k => tc td k ≤ ((m.val : ℕ) : ℝ) / (8388607 : ℕ)) 256 = n at ht hle ⊢
  rw [← ht]
  exact held n hle

theorem left_val (m : Fin 8388608) : left x (ix1 m) = BitVec.ofNat 32 (top td 8388607 m.val) := by
  have e : left x (ix1 m) = right x (ix1 m) - 1#32 := rfl
  rw [e, right_val hnn hx, BitVec.ofNat_add]
  exact BitVec.add_sub_cancel _ _

end

theorem take_val (t : FVec Ideal S256 .f32) (i : IVec S8388608 32) (m : Fin 8388608) (k : Fin 256) (h : i (ix1 m) = BitVec.ofNat 32 k.val) :
    take t i (ix1 m) = t (ix1 k) := by
  have hk := k.isLt
  refine Routing.gather_take1 (N := 256) (n := 8388608) gather_S256_S8388608x1_S8388608_n_0_n_n_0_1_1 rfl rfl rfl rfl t _ m k ?_ (by norm_num)
  have e : broadcastInDim S8388608x1 ![0] bcast_S8388608_S8388608x1_0
    (select (cmpi .slt i (broadcastInDim S8388608 ![] bcast_S_S8388608 (constantI S_ 32 0#32)))
      (addi i (broadcastInDim S8388608 ![] bcast_S_S8388608 (constantI S_ 32 256#32))) i) (ix2 m (0 : Fin 1))
      = Scalar.select (IntOp.cmpi .slt (i (ix1 m)) (BitVec.ofNat 32 0)) (IntOp.addi (i (ix1 m)) 256#32) (i (ix1 m)) := by
    pointwise
  refine e.trans ?_
  rw [h, cmpi_slt (by omega) (by omega)]
  simp [Scalar.select]

theorem quantile_val {td : ℕ → ℝ} (hnn : ∀ k, k < 255 → 0 ≤ td (k + 1)) {x : FVec Ideal S256 .f32} (hx : ∀ k : Fin 256, x (ix1 k) = ((td k.val : ℝ) : EReal))
    (m : Fin 8388608) : quantile x (ix1 m) = ((quant td eps 8388607 m.val : ℝ) : EReal) := by
  have e : ∀ a b c d f : FVec Ideal S8388608 .f32, addf f (mulf (Host.divf (subf a b)
      (addf (subf c b) (broadcastInDim S8388608 ![] bcast_S_S8388608 (constant S_ .f32 0x322BCC77#32)))) (subf d f)) (ix1 m)
      = f (ix1 m) + Ideal.div (a (ix1 m) - b (ix1 m)) (c (ix1 m) - b (ix1 m) + Ideal.ofBits .f32 0x322BCC77#32) * (d (ix1 m) - f (ix1 m)) :=
    fun _ _ _ _ _ => rfl
  have ht := top_le (td := td) (M := 8388607) m.val
  have hL := left_val hnn hx m
  have hR := right_val hnn hx m
  have hw := w_mul (td := td) (ε := eps) hnn eps_pos (top td 8388607 m.val) ht
  unfold quantile
  rw [e, take_val _ _ m ⟨top td 8388607 m.val, by omega⟩ hL, take_val _ _ m ⟨top td 8388607 m.val, by omega⟩ hL,
    take_val _ _ m ⟨top td 8388607 m.val + 1, by omega⟩ hR, take_val _ _ m ⟨top td 8388607 m.val + 1, by omega⟩ hR,
    steps_val, steps_val, cum_val td x hx, cum_val td x hx, level_val, ofBits_eps]
  rw [← EReal.coe_sub, ← EReal.coe_sub, ← EReal.coe_sub, ← EReal.coe_add, div_coe_coe _ _ hw.1.ne', ← EReal.coe_mul, ← EReal.coe_add]
  refine congrArg _ ?_
  dsimp only
  unfold quant w
  push_cast
  ring

end Cert.Proof.Curve

end
-- ==== Proof.Sorted.lean ====
/-
  The reference's values in order, and the reference's loss: the mean distance between the bucket midpoints in order and the
  quantiles.
-/
module

public import proofs.«01_k».proof.Proof.Quantile

@[expose] public section

set_option maxRecDepth 16384

noncomputable section

namespace Cert.Proof.Curve

open Idealize.ShloMosaic
open Cert.ReferenceIdeal Cert.ReferenceIdeal.Gen
open Cert.Proof.Read Cert.Proof.Ranks
open Cert.KernelIdeal.Asm (mid below)
open Cert.KernelIdeal.Tally (hits sorted_at)
open Cert.KernelIdeal.Hist (buckets flat words pixel flat_lt)

/-! ## The bucket of a value -/

theorem three : Ideal.ofBits .f32 0x40400000#32 = ((3 : ℝ) : EReal) := by
  simp [Ideal.ofBits, Ideal.ieee]
  rw [← EReal.coe_mul]
  norm_num

theorem div_three (z : EReal) : Ideal.div z ((3 : ℝ) : EReal) = z * ((3⁻¹ : ℝ) : EReal) := by
  unfold Ideal.div
  rw [if_neg (by norm_num), EReal.coe_inv]

section
variable (x : FVec Ideal S32x3x512x512 .f32)

/-- The mean over the channels. -/
def mean : FVec Ideal S32x512x512 .f32 :=
  Host.divf (Host.reduceAdd x (constant S_ .f32 0x00000000#32) reducesTo_S32x3x512x512_S32x512x512_d1 h_S_)
    (broadcastInDim S32x512x512 ![] bcast_S_S32x512x512 (constant S_ .f32 0x40400000#32))

theorem mean_apply (y : S32x512x512.Idx) :
    mean x y = (x (pixel 0 y) + x (pixel 1 y) + x (pixel 2 y)) * ((3⁻¹ : ℝ) : EReal) := by
  have e : mean x y = Ideal.div (Ideal.hostReduceAdd reducesTo_S32x3x512x512_S32x512x512_d1 x (Ideal.ofBits .f32 0x00000000#32) y)
      (Ideal.ofBits .f32 0x40400000#32) := rfl
  have p : ∀ k : Fin 3, x (pixel k y) = x (ix4 (y 0) k (y 1) (y 2)) := fun k =>
    congrArg x (funext fun a => by match a with | ⟨0, _⟩ => rfl | ⟨1, _⟩ => rfl | ⟨2, _⟩ => rfl | ⟨3, _⟩ => rfl)
  rw [e, Ideal.hostReduceAdd_r4_a1, three, div_three, Ideal.ofBits_zero_f32, zero_add, Fin.sum_univ_three, p 0, p 1, p 2]
  rfl

/-- Image, row and column of the value at a flat position. -/
abbrev place (p : Fin 8388608) : S32x512x512.Idx :=
  fun a => match a with
    | ⟨0, _⟩ => (⟨p.val / 262144, by have := p.isLt; omega⟩ : Fin 32)
    | ⟨1, _⟩ => (⟨p.val / 512 % 512, by omega⟩ : Fin 512)
    | ⟨2, _⟩ => (⟨p.val % 512, by omega⟩ : Fin 512)

theorem word_val (p : Fin 8388608) : word x (ix1 p) = words (flat (F := Ideal) x) 0 p.val := by
  have hp := p.isLt
  have e : ∀ z : FVec Ideal S8388608 .f32, minsi (broadcastInDim S8388608 ![] bcast_S_S8388608 (id (constantI S_ 32 8191#32)))
      (maxsi (broadcastInDim S8388608 ![] bcast_S_S8388608 (id (constantI S_ 32 0#32)))
      (fptosi 32 (Host.floor (mulf z (broadcastInDim S8388608 ![] bcast_S_S8388608 (constant S_ .f32 0x46000000#32)))))) (ix1 p)
      = IntOp.minsi 8191#32 (IntOp.maxsi 0#32 (FloatOps.fptosi 32 (FloatOps.hostUnary .floor
      (FloatOps.mulf (z (ix1 p)) (Scalar.ofBits (F := Ideal) .f32 0x46000000#32))))) := fun _ => rfl
  have h : shapeCast S8388608 (mean x) shapeCasts_S32x512x512_S8388608 (ix1 p) = mean x (place p) := by
    refine shapeCast_apply _ _ (ix1 p) (place p) ?_
    rw [Shape.rowMajor_val_three, Shape.rowMajor_val_one]
    show (p.val / 262144 * 512 + p.val / 512 % 512) * 512 + p.val % 512 = p.val
    omega
  have hw : words (flat (F := Ideal) x) 0 p.val = buckets (F := Ideal) x (place p) := by
    unfold words
    rw [dif_pos (by omega)]
    refine shapeCast_apply _ _ _ (place p) ?_
    rw [Shape.rowMajor_val_three, Shape.rowMajor_val_one]
    show (p.val / 262144 * 512 + p.val / 512 % 512) * 512 + p.val % 512 = 0 + p.val
    omega
  refine (e (shapeCast S8388608 (mean x) shapeCasts_S32x512x512_S8388608)).trans ?_
  rw [h, mean_apply, hw]
  rfl

theorem mids_val (p : Fin 8388608) : mids x (ix1 p) = ((mid (words (flat (F := Ideal) x) 0 p.val).toNat : ℝ) : EReal) := by
  have hp := p.isLt
  have e : ∀ z : IVec S8388608 32, Host.divf (addf (sitofp (F := Ideal) .f32 z) (broadcastInDim S8388608 ![] bcast_S_S8388608 (constant S_ .f32 0x3F000000#32)))
    (broadcastInDim S8388608 ![] bcast_S_S8388608 (constant S_ .f32 0x46000000#32)) (ix1 p)
    = Ideal.div (FloatOps.sitofp (F := Ideal) .f32 (z (ix1 p)) + Ideal.ofBits .f32 0x3F000000#32) (Ideal.ofBits .f32 0x46000000#32) := fun _ => rfl
  have hl : (words (flat (F := Ideal) x) 0 p.val).toNat < 8192 := by
    unfold words
    rw [dif_pos (by omega)]
    exact flat_lt _ _
  refine (e (word x)).trans ?_
  rw [word_val]
  generalize words (flat (F := Ideal) x) 0 p.val = v at hl ⊢
  have hv : v = BitVec.ofNat 32 v.toNat := BitVec.eq_of_toNat_eq (by rw [BitVec.toNat_ofNat, Nat.mod_eq_of_lt (by omega)])
  have hs : FloatOps.sitofp (F := Ideal) .f32 v = ((v.toNat : ℝ) : EReal) := by
    conv_lhs => rw [hv]
    exact sitofp_ofNat (by omega)
  rw [hs, ofBits_half, ofBits_8192, ← EReal.coe_add, div_coe_coe _ _ (by norm_num)]
  unfold mid
  rw [div_eq_mul_one_div]

end

/-! ## The values in order -/

theorem comparator_eq (l r : EReal) : comparator_f32_d0 (F := Ideal) l r = BitVec.ofBool (decide (l < r)) := by
  have hz : Ideal.ofBits .f32 0x00000000#32 = 0 := Ideal.ofBits_zero_f32
  have hs : ∀ l : EReal, Scalar.select (Ideal.cmp .une l l) (Ideal.ofBits .f32 0x7FC00000#32)
      (Scalar.select (Ideal.cmp .oeq l (Ideal.ofBits .f32 0x00000000#32)) (Ideal.ofBits .f32 0x00000000#32) l) = l := fun l => by
    rw [hz]
    by_cases h : l = 0 <;> simp [Ideal.cmp, Scalar.select, h]
  show Ideal.cmpTotal .lt (Scalar.select (Ideal.cmp .une l l) (Ideal.ofBits .f32 0x7FC00000#32)
      (Scalar.select (Ideal.cmp .oeq l (Ideal.ofBits .f32 0x00000000#32)) (Ideal.ofBits .f32 0x00000000#32) l))
    (Scalar.select (Ideal.cmp .une r r) (Ideal.ofBits .f32 0x7FC00000#32)
      (Scalar.select (Ideal.cmp .oeq r (Ideal.ofBits .f32 0x00000000#32)) (Ideal.ofBits .f32 0x00000000#32) r)) = _
  rw [hs, hs]
  rfl

theorem sort_apply {n : ℕ} (x : (⟨1, ![n]⟩ : Shape).Idx → EReal) (i : Fin n) :
    Host.sort ⟨1, ![n]⟩ 0 (comparator_f32_d0 (F := Ideal)) x (ix1 i)
      = x (ix1 (sortedFrom (fun k k' : Fin n => decide (x (ix1 k) < x (ix1 k'))) i)) := by
  have ha : ∀ k : Fin n, Shape.Idx.along (s := ⟨1, ![n]⟩) (ix1 i) 0 k = ix1 k := fun k => funext fun a => by
    match a with
    | ⟨0, _⟩ => exact Function.update_self ..
  have hf : (fun k k' : Fin n => comparator_f32_d0 (F := Ideal) (x (Shape.Idx.along (s := ⟨1, ![n]⟩) (ix1 i) 0 k)) (x (Shape.Idx.along (s := ⟨1, ![n]⟩) (ix1 i) 0 k')) == 1#1)
      = fun k k' : Fin n => decide (x (ix1 k) < x (ix1 k')) := by
    funext k k'
    rw [ha, ha, comparator_eq]
    by_cases h : x (ix1 k) < x (ix1 k') <;> simp [h]
  show x (Shape.Idx.along (s := ⟨1, ![n]⟩) (ix1 i) 0 (sortedFrom (fun k k' : Fin n => comparator_f32_d0 (F := Ideal) (x (Shape.Idx.along (s := ⟨1, ![n]⟩) (ix1 i) 0 k)) (x (Shape.Idx.along (s := ⟨1, ![n]⟩) (ix1 i) 0 k')) == 1#1) i)) = _
  rw [hf]
  exact congrArg x (ha _)

/-- Sorting values that rise with the numbers `f` puts the numbers in order. -/
theorem sort_real {n : ℕ} (x : (⟨1, ![n]⟩ : Shape).Idx → EReal) (g : ℕ → ℝ) (hg : StrictMono g) (f : ℕ → ℕ)
    (hx : ∀ p : Fin n, x (ix1 p) = ((g (f p.val) : ℝ) : EReal)) :
    ∃ c : ℕ → ℕ, (∀ i j, i ≤ j → j < n → c i ≤ c j)
      ∧ (∀ i, ((Finset.range n).filter fun p => c p < i).card = ((Finset.range n).filter fun p => f p < i).card)
      ∧ ∀ m : Fin n, Host.sort ⟨1, ![n]⟩ 0 (comparator_f32_d0 (F := Ideal)) x (ix1 m) = ((g (c m.val) : ℝ) : EReal) := by
  obtain ⟨R, hR⟩ : ∃ R : Fin n → Fin n → Bool, R = fun k k' => decide (x (ix1 k) < x (ix1 k')) := ⟨_, rfl⟩
  have hRf : ∀ a b, R a b = true ↔ f a.val < f b.val := fun a b => by
    rw [hR]
    show decide _ = true ↔ _
    rw [decide_eq_true_iff, hx, hx, EReal.coe_lt_coe_iff, hg.lt_iff_lt]
  have hRn : ∀ a b, R a b = false ↔ f b.val ≤ f a.val := fun a b => by
    rw [← Bool.not_eq_true, hRf, not_lt]
  have hc : ∀ m : Fin n, (fun p => if h : p < n then f (sortedFrom R ⟨p, h⟩).val else 0) m.val = f (sortedFrom R m).val := fun m => dif_pos m.isLt
  refine ⟨fun p => if h : p < n then f (sortedFrom R ⟨p, h⟩).val else 0, fun i j hij hj => ?_, fun i => ?_, fun m => ?_⟩
  · rw [hc ⟨i, by omega⟩, hc ⟨j, hj⟩]
    rcases Nat.lt_or_ge i j with h | h
    · exact (hRn _ _).1 (sortedFrom_noInversion R R (fun a b h => (hRn _ _).2 ((hRf _ _).1 h).le) (fun _ _ h => h)
        (fun a b c h1 h2 => (hRn _ _).2 (((hRn _ _).1 h2).trans ((hRn _ _).1 h1))) ⟨i, by omega⟩ ⟨j, hj⟩ h)
    · have : i = j := by omega
      subst this
      exact le_rfl
  · rw [Finset.card_filter, Finset.card_filter, ← Fin.sum_univ_eq_sum_range, ← Fin.sum_univ_eq_sum_range (fun p => if f p < i then 1 else 0)]
    refine (Finset.sum_congr rfl fun m _ => by rw [hc m]).trans ?_
    exact Function.Bijective.sum_comp (e := sortedFrom R) ⟨sortedFrom_injective R, sortedFrom_surjective R⟩ fun p : Fin n => if f p.val < i then 1 else 0
  · rw [hc m, sort_apply, hx, ← hR]

/-! ## The loss -/

theorem mid_strict : StrictMono mid := fun a b h => by
  have : (a : ℝ) < b := by exact_mod_cast h
  unfold mid
  linarith

theorem sum_abs {n : ℕ} (S Q : (⟨1, ![n]⟩ : Shape).Idx → EReal) (u : ℕ → ℝ)
    (h : ∀ m : Fin n, max (S (ix1 m) - Q (ix1 m)) (-(S (ix1 m) - Q (ix1 m))) = ((u m.val : ℝ) : EReal)) :
    ∑ i : (⟨1, ![n]⟩ : Shape).Idx, max (S i - Q i) (-(S i - Q i)) = ((∑ m ∈ Finset.range n, u m : ℝ) : EReal) := by
  rw [sum_idx1 (fun i : (⟨1, ![n]⟩ : Shape).Idx => max (S i - Q i) (-(S i - Q i))), Finset.sum_congr rfl fun m _ => h m,
    sum_coe Finset.univ fun m : Fin n => u m.val, Fin.sum_univ_eq_sum_range u]

theorem loss_val {td : ℕ → ℝ} (hnn : ∀ k, k < 255 → 0 ≤ td (k + 1)) (x : FVec Ideal S32x3x512x512 .f32) {y : FVec Ideal S256 .f32}
    (hy : ∀ k : Fin 256, y (ix1 k) = ((td k.val : ℝ) : EReal)) (f : ℕ → ℕ) (hf : ∀ p, f p = (words (flat (F := Ideal) x) 0 p).toNat) :
    ∃ c : ℕ → ℕ, (∀ i m, m < 8388608 → below (hits f 8388608) i ≤ m → m < below (hits f 8388608) (i + 1) → c m = i)
      ∧ loss x y = fun _ => (((∑ m ∈ Finset.range 8388608, |mid (c m) - quant td eps 8388607 m|) / 8388608 : ℝ) : EReal) := by
  obtain ⟨c, hmono, hsame, hc⟩ := sort_real (mids x) mid mid_strict f (fun p => by rw [mids_val, hf])
  refine ⟨c, fun i m hm h1 h2 => sorted_at f c 8388608 hmono hsame i m hm h1 h2, ?_⟩
  funext j
  have e : ∀ a b : FVec Ideal S8388608 .f32, Host.divf (Host.reduceAdd (Host.absf (subf a b)) (constant S_ .f32 0x00000000#32)
      reducesTo_S8388608_S_d0 h_S_) (constant S_ .f32 0x4B000000#32) j
      = Ideal.div (Ideal.hostReduceAdd reducesTo_S8388608_S_d0 (fun i => max (a i - b i) (-(a i - b i))) (Ideal.ofBits .f32 0x00000000#32) j)
        (Ideal.ofBits .f32 0x4B000000#32) := fun _ _ => rfl
  have ht : ∀ m : Fin 8388608, max (Host.sort S8388608 0 (comparator_f32_d0 (F := Ideal)) (mids x) (ix1 m) - quantile y (ix1 m))
      (-(Host.sort S8388608 0 (comparator_f32_d0 (F := Ideal)) (mids x) (ix1 m) - quantile y (ix1 m)))
      = ((|mid (c m.val) - quant td eps 8388607 m.val| : ℝ) : EReal) := fun m => by
    rw [show Host.sort S8388608 0 (comparator_f32_d0 (F := Ideal)) (mids x) (ix1 m) = _ from hc m, quantile_val hnn hy, ← EReal.coe_sub, ← EReal.coe_neg, max_coe]
    rfl
  unfold loss
  rw [e]
  generalize Host.sort S8388608 0 (comparator_f32_d0 (F := Ideal)) (mids x) = S at ht ⊢
  generalize quantile y = Q at ht ⊢
  rw [Ideal.hostReduceAdd_total _ (fun b => b.elim0), Ideal.ofBits_zero_f32, zero_add, ofBits_8388608]
  have hs := sum_abs (n := 8388608) S Q (fun m => |mid (c m) - quant td eps 8388607 m|) ht
  exact (congrArg (fun z => Ideal.div z ((8388608 : ℝ) : EReal)) hs).trans (div_coe_coe _ _ (by norm_num))

end Cert.Proof.Curve

end
-- ==== Proof.Clear.lean ====
/-
  What the precondition says of the target: its entries are real numbers, those after the first are not negative, and where a
  bucket's midpoint lies inside a step of the quantile no rank lies from the step's end up to the crossing.
-/
module

public import proofs.«01_k».proof.Pre_clear
public import proofs.«01_k».proof.Proof.Curve
public import Idealize.ShloMosaic.Lib.ReduceAll
public import Idealize.ShloMosaic.Lib.Pointwise.Reduce

@[expose] public section

set_option maxRecDepth 16384

noncomputable section

namespace Cert.Proof.Clear

open Idealize.ShloMosaic
open Cert.Pre_clear
open Cert.Proof.Read Cert.Proof.Ranks
open Cert.Proof.Curve (cum cum_val)
open Cert.KernelIdeal.Asm (mid knot frac frac_pos frac_lt)

instance facts : Cert.Pre_clear.Facts where
  bcast_S_S8192 := by decide
  bcast_S8192_S8192x1_0 := by decide
  bcast_S254_S1x254_1 := by decide
  bcast_S8192x1_S8192x254_0_1 := by decide
  bcast_S1x254_S8192x254_0_1 := by decide
  bcast_S_S_ := by decide
  reduceWindows_S256_S256_w256s1p255_0 := by decide
  h_S_ := by decide
  slices_S256_S254_0 := by decide
  slices_S256_S254_1 := by decide
  bcast_S_S1x254 := by decide
  bcast_S_S8192x254 := by decide
  reducesTo_S8192x254_S_d0_1 := by decide
  bcast_S_S256 := by decide
  reducesTo_S256_S_d0 := by decide
  slices_S256_S255_1 := by decide
  bcast_S_S255 := by decide
  reducesTo_S255_S_d0 := by decide

open Cert.Pre_clear.Facts

theorem ofBool_one (p : Prop) [Decidable p] : BitVec.ofBool (decide p) = 1#1 ↔ p := by
  by_cases h : p <;> simp [h]

theorem infinity : Ideal.ofBits .f32 0x7F800000#32 = ⊤ := by simp [Ideal.ofBits, Ideal.ieee]

/-! ## The precondition's values by name -/

/-- The fractions of the steps at which the midpoints lie. -/
def place : FVec Ideal S8192x254 .f32 :=
  subf (broadcastInDim S8192x254 ![0, 1] bcast_S8192x1_S8192x254_0_1 (broadcastInDim S8192x1 ![0] bcast_S8192_S8192x1_0
    (mulf (Host.divf (addf (sitofp .f32 (iotaInDim S8192 32 0)) (broadcastInDim S8192 ![] bcast_S_S8192 (constant S_ .f32 0x3F000000#32)))
      (broadcastInDim S8192 ![] bcast_S_S8192 (constant S_ .f32 0x46000000#32))) (broadcastInDim S8192 ![] bcast_S_S8192 (constant S_ .f32 0x437F0000#32)))))
    (broadcastInDim S8192x254 ![0, 1] bcast_S1x254_S8192x254_0_1 (broadcastInDim S1x254 ![1] bcast_S254_S1x254_1 (sitofp .f32 (iotaInDim S254 32 0))))

theorem place_val (i : Fin 8192) (k : Fin 254) : place (ix2 i k) = ((255 * mid i.val - k.val : ℝ) : EReal) := by
  have hi := i.isLt
  have hk := k.isLt
  have e : place (ix2 i k) = Ideal.div (FloatOps.sitofp (F := Ideal) .f32 (BitVec.ofNat 32 i.val) + Ideal.ofBits .f32 0x3F000000#32) (Ideal.ofBits .f32 0x46000000#32)
      * Ideal.ofBits .f32 0x437F0000#32 - FloatOps.sitofp (F := Ideal) .f32 (BitVec.ofNat 32 k.val) := by
    unfold place
    pointwise
  rw [e, sitofp_ofNat (by omega), sitofp_ofNat (by omega), ofBits_half, ofBits_8192, ofBits_255, ← EReal.coe_add, div_coe_coe _ _ (by norm_num),
    ← EReal.coe_mul, ← EReal.coe_sub]
  unfold mid
  congr 1
  ring

/-- The cumulative entries at the steps' beginnings. -/
def start (y : FVec Ideal S256 .f32) : FVec Ideal S1x254 .f32 :=
  broadcastInDim S1x254 ![1] bcast_S254_S1x254_1 (extractStridedSlice S254 ![0] (cum (F := Ideal) y) slices_S256_S254_0)

/-- The cumulative entries at the steps' ends. -/
def stop (y : FVec Ideal S256 .f32) : FVec Ideal S1x254 .f32 :=
  broadcastInDim S1x254 ![1] bcast_S254_S1x254_1 (extractStridedSlice S254 ![1] (cum (F := Ideal) y) slices_S256_S254_1)

/-- The last ranks at or below the crossings. -/
def last (y : FVec Ideal S256 .f32) : FVec Ideal S8192x254 .f32 :=
  minimumf (Host.floor (mulf (addf (broadcastInDim S8192x254 ![0, 1] bcast_S1x254_S8192x254_0_1 (start y))
      (mulf place (broadcastInDim S8192x254 ![0, 1] bcast_S1x254_S8192x254_0_1 (addf (subf (stop y) (start y)) (broadcastInDim S1x254 ![] bcast_S_S1x254 (constant S_ .f32 0x322BCC77#32))))))
      (broadcastInDim S8192x254 ![] bcast_S_S8192x254 (constant S_ .f32 0x4AFFFFFE#32))))
    (broadcastInDim S8192x254 ![] bcast_S_S8192x254 (constant S_ .f32 0x4AFFFFFE#32))

/-- The first ranks at or above the steps' ends. -/
def first (y : FVec Ideal S256 .f32) : FVec Ideal S8192x254 .f32 :=
  broadcastInDim S8192x254 ![0, 1] bcast_S1x254_S8192x254_0_1
    (maximumf (Host.ceil (mulf (stop y) (broadcastInDim S1x254 ![] bcast_S_S1x254 (constant S_ .f32 0x4AFFFFFE#32))))
      (broadcastInDim S1x254 ![] bcast_S_S1x254 (constant S_ .f32 0x00000000#32)))

/-- The test of the steps. -/
def test (y : FVec Ideal S256 .f32) : IVec S8192x254 1 :=
  select (andi (cmpf (F := Ideal) (φ := .f32) .ogt place (broadcastInDim S8192x254 ![] bcast_S_S8192x254 (constant S_ .f32 0x00000000#32)))
      (cmpf (F := Ideal) (φ := .f32) .olt place (broadcastInDim S8192x254 ![] bcast_S_S8192x254 (constant S_ .f32 0x3F800000#32))))
    (cmpf (F := Ideal) (φ := .f32) .olt (last y) (first y))
    (broadcastInDim S8192x254 ![] bcast_S_S8192x254 (constantI S_ 1 1#1))

/-- The test of the entries' signs. -/
def sign (y : FVec Ideal S256 .f32) : IVec S255 1 :=
  cmpf (F := Ideal) (φ := .f32) .oge (extractStridedSlice S255 ![1] y slices_S256_S255_1) (broadcastInDim S255 ![] bcast_S_S255 (constant S_ .f32 0x00000000#32))

theorem fn_eq (x : FVec Ideal S32x3x512x512 .f32) (y : FVec Ideal S256 .f32) : Cert.Pre_clear.fn (F := Ideal) x y =
    andi (andi (Host.reduce IntOp.andi (test y) (constantI S_ 1 1#1) reducesTo_S8192x254_S_d0_1 h_S_)
      (Host.reduce IntOp.andi (cmpf (F := Ideal) (φ := .f32) .olt (Host.absf y) (broadcastInDim S256 ![] bcast_S_S256 (constant S_ .f32 0x7F800000#32)))
        (constantI S_ 1 1#1) reducesTo_S256_S_d0 h_S_))
      (Host.reduce IntOp.andi (sign y) (constantI S_ 1 1#1) reducesTo_S255_S_d0 h_S_) := rfl

instance : Subsingleton S_.Idx := ⟨fun a b => funext fun i => i.elim0⟩

theorem and_one (a b c : IVec S_ 1) (h : andi (andi a b) c = fun _ => 1#1) :
    a (fun i => i.elim0) = 1#1 ∧ b (fun i => i.elim0) = 1#1 ∧ c (fun i => i.elim0) = 1#1 := by
  have h0 : IntOp.andi (IntOp.andi (a fun i => i.elim0) (b fun i => i.elim0)) (c fun i => i.elim0) = 1#1 := congrFun h _
  revert h0
  generalize a _ = u
  generalize b _ = v
  generalize c _ = w
  revert u v w
  decide

theorem tests (x : FVec Ideal S32x3x512x512 .f32) (y : FVec Ideal S256 .f32) (h : Cert.Pre_clear.fn (F := Ideal) x y = fun _ => 1#1) :
    (∀ i, test y i = 1#1) ∧ (∀ k : Fin 256, Ideal.cmp .olt (max (y (ix1 k)) (-(y (ix1 k)))) (Ideal.ofBits .f32 0x7F800000#32) = 1#1)
      ∧ ∀ k, sign y k = 1#1 := by
  obtain ⟨h1, h2, h3⟩ := and_one _ _ _ ((fn_eq x y).symm.trans h)
  exact ⟨fun i => Host.reduce_andi_all _ _ _ _ _ h1 i, fun k => Host.reduce_andi_all _ _ _ _ _ h2 (ix1 k), fun k => Host.reduce_andi_all _ _ _ _ _ h3 k⟩

/-! ## The target as real numbers -/

/-- The target as real numbers. -/
def real (y : FVec Ideal S256 .f32) (k : ℕ) : ℝ := if h : k < 256 then (y (ix1 ⟨k, h⟩)).toReal else 0

/-- A rank from the step's end up to the crossing is what the test of the steps rules out. -/
theorem none_between (M : ℕ) (hM : 0 < M) (u e : ℝ) (h : min ((⌊u * M⌋ : ℤ) : ℝ) M < max ((⌈e * M⌉ : ℤ) : ℝ) 0) (m : ℕ) (hm : m ≤ M)
    (hu : (m : ℝ) / M ≤ u) : (m : ℝ) / M < e := by
  have hMr : (0 : ℝ) < M := by exact_mod_cast hM
  by_contra hc
  push Not at hc
  rw [div_le_iff₀ hMr] at hu
  rw [le_div_iff₀ hMr] at hc
  have h1 : ((m : ℤ) : ℝ) ≤ (⌊u * M⌋ : ℤ) := by exact_mod_cast Int.le_floor.2 (by exact_mod_cast hu)
  have h2 : ((⌈e * M⌉ : ℤ) : ℝ) ≤ ((m : ℤ) : ℝ) := by exact_mod_cast Int.ceil_le.2 (by exact_mod_cast hc)
  have h3 : ((m : ℤ) : ℝ) ≤ (M : ℝ) := by exact_mod_cast hm
  have h4 : (0 : ℝ) ≤ ((m : ℤ) : ℝ) := by exact_mod_cast Nat.zero_le m
  exact absurd (lt_of_le_of_lt (le_min h1 h3) (lt_of_lt_of_le h (max_le h2 h4))) (lt_irrefl _)

section
variable {x : FVec Ideal S32x3x512x512 .f32} {y : FVec Ideal S256 .f32} (h : Cert.Pre_clear.fn (F := Ideal) x y = fun _ => 1#1)
include h

theorem real_val (k : Fin 256) : y (ix1 k) = ((real y k.val : ℝ) : EReal) := by
  have hk := (tests x y h).2.1 k
  rw [infinity] at hk
  have hk' : max (y (ix1 k)) (-(y (ix1 k))) < ⊤ := (ofBool_one _).1 hk
  rw [max_lt_iff] at hk'
  unfold real
  rw [dif_pos k.isLt]
  refine (EReal.coe_toReal hk'.1.ne fun hb => ?_).symm
  rw [hb] at hk'
  simp at hk'

theorem real_nonneg (k : ℕ) (hk : k < 255) : 0 ≤ real y (k + 1) := by
  have hs := (tests x y h).2.2 (ix1 (⟨k, hk⟩ : Fin 255))
  have e : extractStridedSlice S255 ![1] y slices_S256_S255_1 (ix1 (⟨k, hk⟩ : Fin 255)) = y (ix1 ⟨k + 1, by omega⟩) := by
    refine congrArg y (funext fun a => Fin.ext ?_)
    match a with
    | ⟨0, _⟩ => exact Nat.add_comm 1 k
  have hs' : Ideal.cmp .oge (extractStridedSlice S255 ![1] y slices_S256_S255_1 (ix1 (⟨k, hk⟩ : Fin 255))) (Ideal.ofBits .f32 0x00000000#32) = 1#1 := hs
  rw [e, real_val h, Ideal.ofBits_zero_f32, ← EReal.coe_zero] at hs'
  exact EReal.coe_le_coe_iff.1 ((ofBool_one _).1 hs')

theorem start_val (k : Fin 254) : start y (ix2 0 k) = ((tc (real y) k.val : ℝ) : EReal) := by
  have e : start y (ix2 0 k) = extractStridedSlice S254 ![0] (cum (F := Ideal) y) slices_S256_S254_0 (ix1 k) := by
    unfold start
    pointwise
  rw [e]
  refine (congrArg (cum (F := Ideal) y) (funext fun a => Fin.ext ?_)).trans (cum_val (real y) y (real_val h) ⟨k.val, by omega⟩)
  match a with
  | ⟨0, _⟩ => exact Nat.zero_add k.val

theorem stop_val (k : Fin 254) : stop y (ix2 0 k) = ((tc (real y) (k.val + 1) : ℝ) : EReal) := by
  have e : stop y (ix2 0 k) = extractStridedSlice S254 ![1] (cum (F := Ideal) y) slices_S256_S254_1 (ix1 k) := by
    unfold stop
    pointwise
  rw [e]
  refine (congrArg (cum (F := Ideal) y) (funext fun a => Fin.ext ?_)).trans (cum_val (real y) y (real_val h) ⟨k.val + 1, by omega⟩)
  match a with
  | ⟨0, _⟩ => exact Nat.add_comm 1 k.val

theorem last_val (i : Fin 8192) (k : Fin 254) :
    last y (ix2 i k) = ((min ((⌊cross (real y) eps k.val (255 * mid i.val - k.val) * (8388607 : ℕ)⌋ : ℤ) : ℝ) (8388607 : ℕ) : ℝ) : EReal) := by
  have e : last y (ix2 i k) = min (Ideal.liftRound Int.floor ((start y (ix2 0 k) + place (ix2 i k) * (stop y (ix2 0 k) - start y (ix2 0 k) + Ideal.ofBits .f32 0x322BCC77#32))
      * Ideal.ofBits .f32 0x4AFFFFFE#32)) (Ideal.ofBits .f32 0x4AFFFFFE#32) := by
    unfold last
    pointwise
  rw [e, start_val h, stop_val h, place_val, ofBits_eps, ofBits_8388607, ← EReal.coe_sub, ← EReal.coe_add, ← EReal.coe_mul, ← EReal.coe_add, ← EReal.coe_mul]
  show min (((⌊_⌋ : ℤ) : ℝ) : EReal) _ = _
  rw [min_coe]
  unfold cross
  norm_num

theorem first_val (i : Fin 8192) (k : Fin 254) :
    first y (ix2 i k) = ((max ((⌈tc (real y) (k.val + 1) * (8388607 : ℕ)⌉ : ℤ) : ℝ) 0 : ℝ) : EReal) := by
  have e : first y (ix2 i k) = max (Ideal.liftRound Int.ceil (stop y (ix2 0 k) * Ideal.ofBits .f32 0x4AFFFFFE#32)) (Ideal.ofBits .f32 0x00000000#32) := by
    unfold first
    pointwise
  rw [e, stop_val h, ofBits_8388607, Ideal.ofBits_zero_f32, ← EReal.coe_mul, ← EReal.coe_zero]
  show max (((⌈_⌉ : ℤ) : ℝ) : EReal) _ = _
  rw [max_coe]
  norm_num

theorem step_knot (i : ℕ) (hi : i < 8192) (hk : knot i < 254) (m : ℕ) (hm : m ≤ 8388607)
    (hu : (m : ℝ) / (8388607 : ℕ) ≤ cross (real y) eps (knot i) (frac i)) : (m : ℝ) / (8388607 : ℕ) < tc (real y) (knot i + 1) := by
  have e := (tests x y h).1 (ix2 (⟨i, hi⟩ : Fin 8192) (⟨knot i, hk⟩ : Fin 254))
  have e' : test y (ix2 (⟨i, hi⟩ : Fin 8192) (⟨knot i, hk⟩ : Fin 254)) = Scalar.select (IntOp.andi
      (Ideal.cmp .ogt (place (ix2 ⟨i, hi⟩ ⟨knot i, hk⟩)) (Ideal.ofBits .f32 0x00000000#32)) (Ideal.cmp .olt (place (ix2 ⟨i, hi⟩ ⟨knot i, hk⟩)) (Ideal.ofBits .f32 0x3F800000#32)))
      (Ideal.cmp .olt (last y (ix2 ⟨i, hi⟩ ⟨knot i, hk⟩)) (first y (ix2 ⟨i, hi⟩ ⟨knot i, hk⟩))) 1#1 := rfl
  have hp : place (ix2 (⟨i, hi⟩ : Fin 8192) (⟨knot i, hk⟩ : Fin 254)) = ((frac i : ℝ) : EReal) := place_val _ _
  have c1 : Ideal.cmp .ogt ((frac i : ℝ) : EReal) ((0 : ℝ) : EReal) = 1#1 := (ofBool_one _).2 (EReal.coe_lt_coe_iff.2 (frac_pos i))
  have c2 : Ideal.cmp .olt ((frac i : ℝ) : EReal) ((1 : ℝ) : EReal) = 1#1 := (ofBool_one _).2 (EReal.coe_lt_coe_iff.2 (frac_lt i))
  rw [e', hp, ofBits_one, Ideal.ofBits_zero_f32, ← EReal.coe_zero, c1, c2, last_val h, first_val h] at e
  exact none_between 8388607 (by norm_num) _ _ (EReal.coe_lt_coe_iff.1 ((ofBool_one _).1 e)) m hm hu

end

end Cert.Proof.Clear

end
-- ==== Proof.Equal.lean ====
/-
  The loss of the kernel is the loss of the reference: the counts put the ranks in runs, one a bucket, the reference's values in
  order are the midpoints of these runs, and the sum over the runs is the sum over the ranks.
-/
module

public import proofs.«01_k».proof.Proof.Sorted
public import proofs.«01_k».proof.Proof.Clear

@[expose] public section

set_option maxRecDepth 16384

noncomputable section

namespace Cert.Proof.Equal

open Idealize.ShloMosaic
open Cert.Proof.Read Cert.Proof.Ranks
open Cert.KernelIdeal.Asm (mid knot frac knot_le frac_pos frac_lt below below_succ bin)
open Cert.KernelIdeal.Tally (hits num num_lt below_all lossOf_val)
open Cert.KernelIdeal.Hist (image target lossOf)

/-- Where the runs of ranks cover `n` ranks, the runs' sums are the ranks' sum. -/
theorem runs {td : ℕ → ℝ} (hnn : ∀ k, k < 255 → 0 ≤ td (k + 1))
    (hs : ∀ i, i < 8192 → knot i < 254 → ∀ m : ℕ, m ≤ 8388607 → (m : ℝ) / (8388607 : ℕ) ≤ cross td eps (knot i) (frac i) → (m : ℝ) / (8388607 : ℕ) < tc td (knot i + 1))
    (f c : ℕ → ℕ) (n : ℕ) (hn : n = 8388607 + 1) (hf : ∀ p, f p < 8192)
    (hc : ∀ i m, m < n → below (hits f n) i ≤ m → m < below (hits f n) (i + 1) → c m = i) :
    ∑ i ∈ Finset.range 8192, bin td i (below (hits f n) i) (below (hits f n) (i + 1))
      = ∑ m ∈ Finset.range n, |mid (c m) - quant td eps 8388607 m| := by
  have hall : below (hits f n) 8192 = n := below_all f n 8192 fun p _ => hf p
  have hle : ∀ i, below (hits f n) i ≤ below (hits f n) (i + 1) := fun i => by rw [below_succ]; omega
  have hmono : ∀ i j, i ≤ j → below (hits f n) i ≤ below (hits f n) j := fun i j h => monotone_nat_of_le_succ hle h
  have h := total_eq (M := 8388607) hnn eps_pos (by norm_num) 8192 mid knot frac (fun i hi => knot_le i hi) (fun i _ => (frac_pos i).le) (fun i _ => frac_lt i)
    (fun i _ => by unfold frac; ring) hs (below (hits f n)) rfl hle (hall.trans hn) c
    (fun i m hi h1 h2 => hc i m (h2.trans_le ((hmono (i + 1) 8192 (by omega)).trans_eq hall)) h1 h2)
  rw [← hn] at h
  exact h

theorem loss_eq (m : (ℓ : Loc Cert.KernelIdeal.nD Cert.KernelIdeal.τ Cert.KernelIdeal.sig) → Buf (Elt Ideal) ℓ) (c : Dev Cert.KernelIdeal.nD)
    (h : Cert.Pre_clear.fn (F := Ideal) (image m c) (target m c) = fun _ => 1#1) :
    lossOf m c = Curve.loss (F := Ideal) (image m c) (target m c) := by
  have hnn : ∀ k, k < 255 → 0 ≤ Clear.real (target m c) (k + 1) := fun k hk => Clear.real_nonneg h k hk
  obtain ⟨s, hs, hl⟩ := Curve.loss_val hnn (image m c) (fun k => Clear.real_val h k) (num m c) (fun p => rfl)
  rw [lossOf_val m c (fun j => Clear.real_val h j) hnn, hl, runs hnn (fun i hi => Clear.step_knot h i hi) (num m c) s 8388608 (by norm_num) (num_lt m c) hs]

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.LaunchI
public import proofs.«01_k».proof.Proof.LaunchK
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference declares no semaphore. -/
theorem reference_sem (s : GSem Cert.ReferenceIdeal.nD Cert.ReferenceIdeal.τ Cert.ReferenceIdeal.sig → ℤ) : s = fun _ => 0 :=
  funext fun g => by
    rcases g with ⟨_, c⟩
    rcases c with c | c <;> exact c.elim0

theorem run_kernel : Cert.quiescent_Kernel (hKernel := Cert.Kernel.Gen.facts) := fun m g _ =>
  (θ_run Cert.Kernel.defs _ _).mono (fun _ h => ⟨fun c => (h.1 c).2, h.2⟩) (Cert.Kernel.Hist.run_main (F := Bits) m g)

theorem run_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hist.run_main (F := Ideal) m g)

theorem run_reference : Cert.quiescent_ReferenceIdeal (hReferenceIdeal := Cert.ReferenceIdeal.Gen.facts) := fun m g _ =>
  (θ_run Cert.ReferenceIdeal.defs _ _).mono (fun r h => ⟨fun c => (h c).2, reference_sem r.2.sem⟩)
    (Cert.ReferenceIdeal.Value.run (F := Ideal) m g)

theorem preserves : Cert.preserves_Kernel_KernelIdeal := ⟨⟨rfl, fun _ => rfl, rfl⟩, ⟨rfl, fun _ => rfl, rfl⟩, ⟨rfl, fun _ => rfl, rfl⟩, ⟨rfl, fun _ => rfl, rfl⟩⟩

theorem algebraic : Cert.algebraic_KernelIdeal_ReferenceIdeal_pre_clear (hKernelIdeal := Cert.KernelIdeal.Gen.facts)
    (hReferenceIdeal := Cert.ReferenceIdeal.Gen.facts) (hPre_clear := Clear.facts) := fun m g m' g' hp hm =>
  ⟨fun c => Cert.KernelIdeal.Hist.lossOf (F := Ideal) m c,
    (θ_run Cert.KernelIdeal.defs _ _).mono (fun _ h c => h.1 c) (Cert.KernelIdeal.Hist.run_main (F := Ideal) m g),
    (θ_run Cert.ReferenceIdeal.defs _ _).mono (fun _ h c => ⟨(h c).1.trans ((Curve.res_eq m' c).trans
      ((congrArg₂ (Curve.loss (F := Ideal)) (hm c).1 (hm c).2).trans (Equal.loss_eq m c (hp c)).symm)), (h c).2⟩)
      (Cert.ReferenceIdeal.Value.run (F := Ideal) m' g')⟩

theorem claim : Cert.Claim := ⟨Cert.Kernel.Gen.facts, Cert.KernelIdeal.Gen.facts, Cert.ReferenceIdeal.Gen.facts, Clear.facts,
  run_kernel, run_kernelIdeal, fun m g _ => run_kernelIdeal m g trivial, run_reference, fun m g _ => run_reference m g trivial, preserves, algebraic⟩

end Cert.Proof

end
